-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawable [hPre_drawable : Cert.Pre_drawable.Facts] (m : (ℓ : Loc Cert.KernelIdeal.nD Cert.KernelIdeal.τ Cert.KernelIdeal.sig) → Buf (Elt Ideal) ℓ) : Prop :=
  ∀ c : Dev Cert.KernelIdeal.nD,
    (Cert.Pre_drawable.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawable [hPre_drawable : Cert.Pre_drawable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawable.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_drawable [hKernelIdeal : Cert.KernelIdeal.Facts] [hPre_drawable : Cert.Pre_drawable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_drawable [hReferenceIdeal : Cert.ReferenceIdeal.Facts] [hPre_drawable : Cert.Pre_drawable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_drawable [hKernelIdeal : Cert.KernelIdeal.Facts] [hReferenceIdeal : Cert.ReferenceIdeal.Facts] [hPre_drawable : Cert.Pre_drawable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_drawable : Cert.Pre_drawable.Facts),
    quiescent_Kernel (hKernel := hKernel)
    ∧ quiescent_KernelIdeal (hKernelIdeal := hKernelIdeal)
    ∧ quiescent_KernelIdeal_pre_drawable (hKernelIdeal := hKernelIdeal) (hPre_drawable := hPre_drawable)
    ∧ quiescent_ReferenceIdeal (hReferenceIdeal := hReferenceIdeal)
    ∧ quiescent_ReferenceIdeal_pre_drawable (hReferenceIdeal := hReferenceIdeal) (hPre_drawable := hPre_drawable)
    ∧ preserves_Kernel_KernelIdeal
    ∧ algebraic_KernelIdeal_ReferenceIdeal_pre_drawable (hKernelIdeal := hKernelIdeal) (hReferenceIdeal := hReferenceIdeal) (hPre_drawable := hPre_drawable)
-- ==== Pre_drawable.lean ====
abbrev S64x1000000 : Shape := ⟨2, ![64, 1000000]⟩
abbrev S_ : Shape := ⟨0, ![]⟩
abbrev S64 : Shape := ⟨1, ![64]⟩

class Facts : Prop where
  bcast_S_S64x1000000 : S_.BroadcastsInDim S64x1000000 (![] : Fin 0 → Fin S64x1000000.rank)
  reducesTo_S64x1000000_S64_d1 : S64x1000000.ReducesTo [1] S64
  h_S_ : 0 < S_.numel
  reducesTo_S64_S_d0 : S64.ReducesTo [0] S_

variable [Facts]

def fn {F : FTy → Type} [FloatOps F] (main_arg0 : FVec F S64x1000000 .f32) : IVec S_ 1 :=
  let main_cst : FVec F S_ .f32 := constant S_ .f32 0xFF800000#32
  let main_v0 : FVec F S64x1000000 .f32 := broadcastInDim S64x1000000 ![] bcast_S_S64x1000000 main_cst
  let main_v1 : IVec S64x1000000 1 := cmpf .ogt main_arg0 main_v0
  let main_c : IVec S_ 1 := constantI S_ 1 0#1
  let main_v2 : IVec S64 1 := (fun x v => Host.reduce IntOp.ori x v reducesTo_S64x1000000_S64_d1 h_S_) main_v1 main_c
  let main_c_0 : IVec S_ 1 := constantI S_ 1 1#1
  let main_v3 : IVec S_ 1 := (fun x v => Host.reduce IntOp.andi x v reducesTo_S64_S_d0 h_S_) main_v2 main_c_0
  main_v3
-- ==== Kernel.lean ====
abbrev S64x1000000 : Shape := ⟨2, ![64, 1000000]⟩
abbrev S1 : Shape := ⟨1, ![1]⟩
abbrev S64x1 : Shape := ⟨2, ![64, 1]⟩
abbrev S32x16384 : Shape := ⟨2, ![32, 16384]⟩
abbrev S32x1 : Shape := ⟨2, ![32, 1]⟩
abbrev S32x128 : Shape := ⟨2, ![32, 128]⟩
abbrev S32 : Shape := ⟨1, ![32]⟩
abbrev S64 : Shape := ⟨1, ![64]⟩
abbrev S_ : Shape := ⟨0, ![]⟩

abbrev nBuf : Space → Nat
  | .hbm => 8
  | .vmem => 8
  | .smem => 1
  | _ => 0

abbrev bufTy : (tb : Table) → Fin (tcTables nBuf tb) → BufTy
  | .hbm, ⟨0, _⟩ => ⟨S64x1000000, .f32⟩
  | .hbm, ⟨1, _⟩ => ⟨S64x1, .f32⟩
  | .hbm, ⟨2, _⟩ => ⟨S64x1, .i32⟩
  | .hbm, ⟨3, _⟩ => ⟨S64, .f32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i32⟩
  | .local _ .vmem, ⟨0, _⟩ => ⟨S32x16384, .f32⟩
  | .local _ .vmem, ⟨1, _⟩ => ⟨S32x16384, .f32⟩
  | .local _ .vmem, ⟨2, _⟩ => ⟨S32x1, .f32⟩
  | .local _ .vmem, ⟨3, _⟩ => ⟨S32x1, .f32⟩
  | .local _ .vmem, ⟨4, _⟩ => ⟨S32x1, .i32⟩
  | .local _ .vmem, ⟨5, _⟩ => ⟨S32x1, .i32⟩
  | .local _ .vmem, ⟨6, _⟩ => ⟨S32x128, .f32⟩
  | .local _ .vmem, ⟨7, _⟩ => ⟨S32x128, .i32⟩
  | .local _ .smem, ⟨0, _⟩ => ⟨S1, .i32⟩
  | _, _ => ⟨S64x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 62], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg1 : BitVec 32 := BitVec.ofNat 32 (i 1).val
  let c61_i32 : BitVec 32 := 61#32
  let v23197 : BitVec 1 := Scalar.cmpi .eq arg1 c61_i32
  let v23198 : BitVec 32 := Scalar.extui v23197
  let c0_i32_7160 : BitVec 32 := 0#32
  let v23199 : BitVec 1 := Scalar.cmpi .ne v23198 c0_i32_7160
  v23199

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceIdeal.lean ====
abbrev S64x1000000 : Shape := ⟨2, ![64, 1000000]⟩
abbrev S_ : Shape := ⟨0, ![]⟩
abbrev S1 : Shape := ⟨1, ![1]⟩
abbrev S2 : Shape := ⟨1, ![2]⟩
abbrev S64 : Shape := ⟨1, ![64]⟩

abbrev nBuf : Space → Nat
  | .hbm => 278
  | .vmem => 0
  | .smem => 0
  | _ => 0

abbrev hbmTy0_0 (i : Nat) : BufTy := match i % 128 with
  | 0 => ⟨S64x1000000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S64x1000000, .i64⟩
  | 16 => ⟨S64x1000000, .i64⟩
  | 17 => ⟨S_, .i64⟩
  | 18 => ⟨S64x1000000, .i64⟩
  | 19 => ⟨S64x1000000, .i64⟩
  | 20 => ⟨S_, .i64⟩
  | 21 => ⟨S64x1000000, .i64⟩
  | 22 => ⟨S64x1000000, .i64⟩
  | 23 => ⟨S64x1000000, .i64⟩
  | 24 => ⟨S_, .i64⟩
  | 25 => ⟨S64x1000000, .i64⟩
  | 26 => ⟨S64x1000000, .i64⟩
  | 27 => ⟨S64x1000000, .i32⟩
  | 28 => ⟨S64x1000000, .i32⟩
  | 29 => ⟨S_, .i32⟩
  | 30 => ⟨S_, .i32⟩
  | 31 => ⟨S_, .i32⟩
  | 32 => ⟨S64x1000000, .i32⟩
  | 33 => ⟨S64x1000000, .i32⟩
  | 34 => ⟨S64x1000000, .i32⟩
  | 35 => ⟨S64x1000000, .i32⟩
  | 36 => ⟨S64x1000000, .i32⟩
  | 37 => ⟨S_, .i32⟩
  | 38 => ⟨S64x1000000, .i32⟩
  | 39 => ⟨S64x1000000, .i32⟩
  | 40 => ⟨S_, .i32⟩
  | 41 => ⟨S64x1000000, .i32⟩
  | 42 => ⟨S64x1000000, .i32⟩
  | 43 => ⟨S64x1000000, .i32⟩
  | 44 => ⟨S64x1000000, .i32⟩
  | 45 => ⟨S64x1000000, .i32⟩
  | 46 => ⟨S_, .i32⟩
  | 47 => ⟨S64x1000000, .i32⟩
  | 48 => ⟨S64x1000000, .i32⟩
  | 49 => ⟨S_, .i32⟩
  | 50 => ⟨S64x1000000, .i32⟩
  | 51 => ⟨S64x1000000, .i32⟩
  | 52 => ⟨S64x1000000, .i32⟩
  | 53 => ⟨S64x1000000, .i32⟩
  | 54 => ⟨S64x1000000, .i32⟩
  | 55 => ⟨S_, .i32⟩
  | 56 => ⟨S64x1000000, .i32⟩
  | 57 => ⟨S64x1000000, .i32⟩
  | 58 => ⟨S_, .i32⟩
  | 59 => ⟨S64x1000000, .i32⟩
  | 60 => ⟨S64x1000000, .i32⟩
  | 61 => ⟨S64x1000000, .i32⟩
  | 62 => ⟨S64x1000000, .i32⟩
  | 63 => ⟨S64x1000000, .i32⟩
  | 64 => ⟨S_, .i32⟩
  | 65 => ⟨S64x1000000, .i32⟩
  | 66 => ⟨S64x1000000, .i32⟩
  | 67 => ⟨S_, .i32⟩
  | 68 => ⟨S64x1000000, .i32⟩
  | 69 => ⟨S64x1000000, .i32⟩
  | 70 => ⟨S64x1000000, .i32⟩
  | 71 => ⟨S64x1000000, .i32⟩
  | 72 => ⟨S64x1000000, .i32⟩
  | 73 => ⟨S64x1000000, .i32⟩
  | 74 => ⟨S64x1000000, .i32⟩
  | 75 => ⟨S64x1000000, .i32⟩
  | 76 => ⟨S_, .i32⟩
  | 77 => ⟨S64x1000000, .i32⟩
  | 78 => ⟨S64x1000000, .i32⟩
  | 79 => ⟨S64x1000000, .i32⟩
  | 80 => ⟨S_, .i32⟩
  | 81 => ⟨S64x1000000, .i32⟩
  | 82 => ⟨S64x1000000, .i32⟩
  | 83 => ⟨S_, .i32⟩
  | 84 => ⟨S64x1000000, .i32⟩
  | 85 => ⟨S64x1000000, .i32⟩
  | 86 => ⟨S64x1000000, .i32⟩
  | 87 => ⟨S64x1000000, .i32⟩
  | 88 => ⟨S64x1000000, .i32⟩
  | 89 => ⟨S_, .i32⟩
  | 90 => ⟨S64x1000000, .i32⟩
  | 91 => ⟨S64x1000000, .i32⟩
  | 92 => ⟨S_, .i32⟩
  | 93 => ⟨S64x1000000, .i32⟩
  | 94 => ⟨S64x1000000, .i32⟩
  | 95 => ⟨S64x1000000, .i32⟩
  | 96 => ⟨S64x1000000, .i32⟩
  | 97 => ⟨S64x1000000, .i32⟩
  | 98 => ⟨S_, .i32⟩
  | 99 => ⟨S64x1000000, .i32⟩
  | 100 => ⟨S64x1000000, .i32⟩
  | 101 => ⟨S_, .i32⟩
  | 102 => ⟨S64x1000000, .i32⟩
  | 103 => ⟨S64x1000000, .i32⟩
  | 104 => ⟨S64x1000000, .i32⟩
  | 105 => ⟨S64x1000000, .i32⟩
  | 106 => ⟨S64x1000000, .i32⟩
  | 107 => ⟨S_, .i32⟩
  | 108 => ⟨S64x1000000, .i32⟩
  | 109 => ⟨S64x1000000, .i32⟩
  | 110 => ⟨S_, .i32⟩
  | 111 => ⟨S64x1000000, .i32⟩
  | 112 => ⟨S64x1000000, .i32⟩
  | 113 => ⟨S64x1000000, .i32⟩
  | 114 => ⟨S64x1000000, .i32⟩
  | 115 => ⟨S64x1000000, .i32⟩
  | 116 => ⟨S64x1000000, .i32⟩
  | 117 => ⟨S64x1000000, .i32⟩
  | 118 => ⟨S64x1000000, .i32⟩
  | 119 => ⟨S_, .i32⟩
  | 120 => ⟨S64x1000000, .i32⟩
  | 121 => ⟨S64x1000000, .i32⟩
  | 122 => ⟨S64x1000000, .i32⟩
  | 123 => ⟨S_, .i32⟩
  | 124 => ⟨S64x1000000, .i32⟩
  | 125 => ⟨S64x1000000, .i32⟩
  | 126 => ⟨S_, .i32⟩
  | 127 => ⟨S64x1000000, .i32⟩
  | _ => ⟨S64x1000000, .f32⟩

abbrev hbmTy0_1 (i : Nat) : BufTy := match i % 128 with
  | 0 => ⟨S64x1000000, .i32⟩
  | 1 => ⟨S64x1000000, .i32⟩
  | 2 => ⟨S64x1000000, .i32⟩
  | 3 => ⟨S64x1000000, .i32⟩
  | 4 => ⟨S_, .i32⟩
  | 5 => ⟨S64x1000000, .i32⟩
  | 6 => ⟨S64x1000000, .i32⟩
  | 7 => ⟨S_, .i32⟩
  | 8 => ⟨S64x1000000, .i32⟩
  | 9 => ⟨S64x1000000, .i32⟩
  | 10 => ⟨S64x1000000, .i32⟩
  | 11 => ⟨S64x1000000, .i32⟩
  | 12 => ⟨S64x1000000, .i32⟩
  | 13 => ⟨S_, .i32⟩
  | 14 => ⟨S64x1000000, .i32⟩
  | 15 => ⟨S64x1000000, .i32⟩
  | 16 => ⟨S_, .i32⟩
  | 17 => ⟨S64x1000000, .i32⟩
  | 18 => ⟨S64x1000000, .i32⟩
  | 19 => ⟨S64x1000000, .i32⟩
  | 20 => ⟨S64x1000000, .i32⟩
  | 21 => ⟨S64x1000000, .i32⟩
  | 22 => ⟨S_, .i32⟩
  | 23 => ⟨S64x1000000, .i32⟩
  | 24 => ⟨S64x1000000, .i32⟩
  | 25 => ⟨S_, .i32⟩
  | 26 => ⟨S64x1000000, .i32⟩
  | 27 => ⟨S64x1000000, .i32⟩
  | 28 => ⟨S64x1000000, .i32⟩
  | 29 => ⟨S64x1000000, .i32⟩
  | 30 => ⟨S64x1000000, .i32⟩
  | 31 => ⟨S64x1000000, .i32⟩
  | 32 => ⟨S64x1000000, .i32⟩
  | 33 => ⟨S64x1000000, .i32⟩
  | 34 => ⟨S_, .i32⟩
  | 35 => ⟨S64x1000000, .i32⟩
  | 36 => ⟨S64x1000000, .i32⟩
  | 37 => ⟨S64x1000000, .i32⟩
  | 38 => ⟨S_, .i32⟩
  | 39 => ⟨S64x1000000, .i32⟩
  | 40 => ⟨S64x1000000, .i32⟩
  | 41 => ⟨S_, .i32⟩
  | 42 => ⟨S64x1000000, .i32⟩
  | 43 => ⟨S64x1000000, .i32⟩
  | 44 => ⟨S64x1000000, .i32⟩
  | 45 => ⟨S64x1000000, .i32⟩
  | 46 => ⟨S64x1000000, .i32⟩
  | 47 => ⟨S_, .i32⟩
  | 48 => ⟨S64x1000000, .i32⟩
  | 49 => ⟨S64x1000000, .i32⟩
  | 50 => ⟨S_, .i32⟩
  | 51 => ⟨S64x1000000, .i32⟩
  | 52 => ⟨S64x1000000, .i32⟩
  | 53 => ⟨S64x1000000, .i32⟩
  | 54 => ⟨S64x1000000, .i32⟩
  | 55 => ⟨S64x1000000, .i32⟩
  | 56 => ⟨S_, .i32⟩
  | 57 => ⟨S64x1000000, .i32⟩
  | 58 => ⟨S64x1000000, .i32⟩
  | 59 => ⟨S_, .i32⟩
  | 60 => ⟨S64x1000000, .i32⟩
  | 61 => ⟨S64x1000000, .i32⟩
  | 62 => ⟨S64x1000000, .i32⟩
  | 63 => ⟨S64x1000000, .i32⟩
  | 64 => ⟨S64x1000000, .i32⟩
  | 65 => ⟨S_, .i32⟩
  | 66 => ⟨S64x1000000, .i32⟩
  | 67 => ⟨S64x1000000, .i32⟩
  | 68 => ⟨S_, .i32⟩
  | 69 => ⟨S64x1000000, .i32⟩
  | 70 => ⟨S64x1000000, .i32⟩
  | 71 => ⟨S64x1000000, .i32⟩
  | 72 => ⟨S64x1000000, .i32⟩
  | 73 => ⟨S64x1000000, .i32⟩
  | 74 => ⟨S64x1000000, .i32⟩
  | 75 => ⟨S64x1000000, .i32⟩
  | 76 => ⟨S64x1000000, .i32⟩
  | 77 => ⟨S_, .i32⟩
  | 78 => ⟨S64x1000000, .i32⟩
  | 79 => ⟨S64x1000000, .i32⟩
  | 80 => ⟨S64x1000000, .i32⟩
  | 81 => ⟨S_, .i32⟩
  | 82 => ⟨S64x1000000, .i32⟩
  | 83 => ⟨S64x1000000, .i32⟩
  | 84 => ⟨S_, .i32⟩
  | 85 => ⟨S64x1000000, .i32⟩
  | 86 => ⟨S64x1000000, .i32⟩
  | 87 => ⟨S64x1000000, .i32⟩
  | 88 => ⟨S64x1000000, .i32⟩
  | 89 => ⟨S64x1000000, .i32⟩
  | 90 => ⟨S_, .i32⟩
  | 91 => ⟨S64x1000000, .i32⟩
  | 92 => ⟨S64x1000000, .i32⟩
  | 93 => ⟨S_, .i32⟩
  | 94 => ⟨S64x1000000, .i32⟩
  | 95 => ⟨S64x1000000, .i32⟩
  | 96 => ⟨S64x1000000, .i32⟩
  | 97 => ⟨S64x1000000, .i32⟩
  | 98 => ⟨S64x1000000, .i32⟩
  | 99 => ⟨S_, .i32⟩
  | 100 => ⟨S64x1000000, .i32⟩
  | 101 => ⟨S64x1000000, .i32⟩
  | 102 => ⟨S_, .i32⟩
  | 103 => ⟨S64x1000000, .i32⟩
  | 104 => ⟨S64x1000000, .i32⟩
  | 105 => ⟨S64x1000000, .i32⟩
  | 106 => ⟨S64x1000000, .i32⟩
  | 107 => ⟨S64x1000000, .i32⟩
  | 108 => ⟨S_, .i32⟩
  | 109 => ⟨S64x1000000, .i32⟩
  | 110 => ⟨S64x1000000, .i32⟩
  | 111 => ⟨S_, .i32⟩
  | 112 => ⟨S64x1000000, .i32⟩
  | 113 => ⟨S64x1000000, .i32⟩
  | 114 => ⟨S64x1000000, .i32⟩
  | 115 => ⟨S64x1000000, .i32⟩
  | 116 => ⟨S64x1000000, .i32⟩
  | 117 => ⟨S64x1000000, .i32⟩
  | 118 => ⟨S64x1000000, .i32⟩
  | 119 => ⟨S64x1000000, .i32⟩
  | 120 => ⟨S_, .i32⟩
  | 121 => ⟨S64x1000000, .i32⟩
  | 122 => ⟨S64x1000000, .i32⟩
  | 123 => ⟨S64x1000000, .i32⟩
  | 124 => ⟨S_, .i32⟩
  | 125 => ⟨S64x1000000, .i32⟩
  | 126 => ⟨S64x1000000, .i32⟩
  | 127 => ⟨S_, .i32⟩
  | _ => ⟨S64x1000000, .f32⟩

abbrev hbmTy0_2 (i : Nat) : BufTy := match i % 128 with
  | 0 => ⟨S64x1000000, .i32⟩
  | 1 => ⟨S64x1000000, .i32⟩
  | 2 => ⟨S64x1000000, .f32⟩
  | 3 => ⟨S_, .f32⟩
  | 4 => ⟨S64x1000000, .f32⟩
  | 5 => ⟨S64x1000000, .f32⟩
  | 6 => ⟨S_, .f32⟩
  | 7 => ⟨S64x1000000, .f32⟩
  | 8 => ⟨S64x1000000, .i1⟩
  | 9 => ⟨S_, .f32⟩
  | 10 => ⟨S64x1000000, .f32⟩
  | 11 => ⟨S64x1000000, .f32⟩
  | 12 => ⟨S64x1000000, .f32⟩
  | 13 => ⟨S64x1000000, .f32⟩
  | 14 => ⟨S64x1000000, .f32⟩
  | 15 => ⟨S64x1000000, .f32⟩
  | 16 => ⟨S64x1000000, .f32⟩
  | 17 => ⟨S64x1000000, .i32⟩
  | 18 => ⟨S_, .f32⟩
  | 19 => ⟨S_, .i32⟩
  | 20 => ⟨S64, .f32⟩
  | 21 => ⟨S64, .i32⟩
  | _ => ⟨S64x1000000, .f32⟩

abbrev hbmTy (i : Nat) : BufTy := match i / 128 with
  | 0 => hbmTy0_0 i
  | 1 => hbmTy0_1 i
  | 2 => hbmTy0_2 i
  | _ => ⟨S64x1000000, .f32⟩

abbrev bufTy : (tb : Table) → Fin (tcTables nBuf tb) → BufTy
  | .hbm, ⟨i, _⟩ => hbmTy i
  | _, _ => ⟨S64x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_c_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_4 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_c_0 : Ref sig .tc := ⟨.hbm, 37, rfl⟩
abbrev main_call0_v7 : Ref sig .tc := ⟨.hbm, 38, rfl⟩
abbrev main_call0_v8 : Ref sig .tc := ⟨.hbm, 39, rfl⟩
abbrev main_call0_c_1 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_c_2 : Ref sig .tc := ⟨.hbm, 46, rfl⟩
abbrev main_call0_v14 : Ref sig .tc := ⟨.hbm, 47, rfl⟩
abbrev main_call0_v15 : Ref sig .tc := ⟨.hbm, 48, rfl⟩
abbrev main_call0_c_3 : Ref sig .tc := ⟨.hbm, 49, rfl⟩
abbrev main_call0_v16 : Ref sig .tc := ⟨.hbm, 50, rfl⟩
abbrev main_call0_v17 : Ref sig .tc := ⟨.hbm, 51, rfl⟩
abbrev main_call0_v18 : Ref sig .tc := ⟨.hbm, 52, rfl⟩
abbrev main_call0_v19 : Ref sig .tc := ⟨.hbm, 53, rfl⟩
abbrev main_call0_v20 : Ref sig .tc := ⟨.hbm, 54, rfl⟩
abbrev main_call0_c_4 : Ref sig .tc := ⟨.hbm, 55, rfl⟩
abbrev main_call0_v21 : Ref sig .tc := ⟨.hbm, 56, rfl⟩
abbrev main_call0_v22 : Ref sig .tc := ⟨.hbm, 57, rfl⟩
abbrev main_call0_c_5 : Ref sig .tc := ⟨.hbm, 58, rfl⟩
abbrev main_call0_v23 : Ref sig .tc := ⟨.hbm, 59, rfl⟩
abbrev main_call0_v24 : Ref sig .tc := ⟨.hbm, 60, rfl⟩
abbrev main_call0_v25 : Ref sig .tc := ⟨.hbm, 61, rfl⟩
abbrev main_call0_v26 : Ref sig .tc := ⟨.hbm, 62, rfl⟩
abbrev main_call0_v27 : Ref sig .tc := ⟨.hbm, 63, rfl⟩
abbrev main_call0_c_6 : Ref sig .tc := ⟨.hbm, 64, rfl⟩
abbrev main_call0_v28 : Ref sig .tc := ⟨.hbm, 65, rfl⟩
abbrev main_call0_v29 : Ref sig .tc := ⟨.hbm, 66, rfl⟩
abbrev main_call0_c_7 : Ref sig .tc := ⟨.hbm, 67, rfl⟩
abbrev main_call0_v30 : Ref sig .tc := ⟨.hbm, 68, rfl⟩
abbrev main_call0_v31 : Ref sig .tc := ⟨.hbm, 69, rfl⟩
abbrev main_call0_v32 : Ref sig .tc := ⟨.hbm, 70, rfl⟩
abbrev main_call0_v33 : Ref sig .tc := ⟨.hbm, 71, rfl⟩
abbrev main_call0_v34 : Ref sig .tc := ⟨.hbm, 72, rfl⟩
abbrev main_call0_v35 : Ref sig .tc := ⟨.hbm, 73, rfl⟩
abbrev main_call0_v36 : Ref sig .tc := ⟨.hbm, 74, rfl⟩
abbrev main_call0_v37 : Ref sig .tc := ⟨.hbm, 75, rfl⟩
abbrev main_call0_c_8 : Ref sig .tc := ⟨.hbm, 76, rfl⟩
abbrev main_call0_v38 : Ref sig .tc := ⟨.hbm, 77, rfl⟩
abbrev main_call0_v39 : Ref sig .tc := ⟨.hbm, 78, rfl⟩
abbrev main_call0_v40 : Ref sig .tc := ⟨.hbm, 79, rfl⟩
abbrev main_call0_c_9 : Ref sig .tc := ⟨.hbm, 80, rfl⟩
abbrev main_call0_v41 : Ref sig .tc := ⟨.hbm, 81, rfl⟩
abbrev main_call0_v42 : Ref sig .tc := ⟨.hbm, 82, rfl⟩
abbrev main_call0_c_10 : Ref sig .tc := ⟨.hbm, 83, rfl⟩
abbrev main_call0_v43 : Ref sig .tc := ⟨.hbm, 84, rfl⟩
abbrev main_call0_v44 : Ref sig .tc := ⟨.hbm, 85, rfl⟩
abbrev main_call0_v45 : Ref sig .tc := ⟨.hbm, 86, rfl⟩
abbrev main_call0_v46 : Ref sig .tc := ⟨.hbm, 87, rfl⟩
abbrev main_call0_v47 : Ref sig .tc := ⟨.hbm, 88, rfl⟩
abbrev main_call0_c_11 : Ref sig .tc := ⟨.hbm, 89, rfl⟩
abbrev main_call0_v48 : Ref sig .tc := ⟨.hbm, 90, rfl⟩
abbrev main_call0_v49 : Ref sig .tc := ⟨.hbm, 91, rfl⟩
abbrev main_call0_c_12 : Ref sig .tc := ⟨.hbm, 92, rfl⟩
abbrev main_call0_v50 : Ref sig .tc := ⟨.hbm, 93, rfl⟩
abbrev main_call0_v51 : Ref sig .tc := ⟨.hbm, 94, rfl⟩
abbrev main_call0_v52 : Ref sig .tc := ⟨.hbm, 95, rfl⟩
abbrev main_call0_v53 : Ref sig .tc := ⟨.hbm, 96, rfl⟩
abbrev main_call0_v54 : Ref sig .tc := ⟨.hbm, 97, rfl⟩
abbrev main_call0_c_13 : Ref sig .tc := ⟨.hbm, 98, rfl⟩
abbrev main_call0_v55 : Ref sig .tc := ⟨.hbm, 99, rfl⟩
abbrev main_call0_v56 : Ref sig .tc := ⟨.hbm, 100, rfl⟩
abbrev main_call0_c_14 : Ref sig .tc := ⟨.hbm, 101, rfl⟩
abbrev main_call0_v57 : Ref sig .tc := ⟨.hbm, 102, rfl⟩
abbrev main_call0_v58 : Ref sig .tc := ⟨.hbm, 103, rfl⟩
abbrev main_call0_v59 : Ref sig .tc := ⟨.hbm, 104, rfl⟩
abbrev main_call0_v60 : Ref sig .tc := ⟨.hbm, 105, rfl⟩
abbrev main_call0_v61 : Ref sig .tc := ⟨.hbm, 106, rfl⟩
abbrev main_call0_c_15 : Ref sig .tc := ⟨.hbm, 107, rfl⟩
abbrev main_call0_v62 : Ref sig .tc := ⟨.hbm, 108, rfl⟩
abbrev main_call0_v63 : Ref sig .tc := ⟨.hbm, 109, rfl⟩
abbrev main_call0_c_16 : Ref sig .tc := ⟨.hbm, 110, rfl⟩
abbrev main_call0_v64 : Ref sig .tc := ⟨.hbm, 111, rfl⟩
abbrev main_call0_v65 : Ref sig .tc := ⟨.hbm, 112, rfl⟩
abbrev main_call0_v66 : Ref sig .tc := ⟨.hbm, 113, rfl⟩
abbrev main_call0_v67 : Ref sig .tc := ⟨.hbm, 114, rfl⟩
abbrev main_call0_v68 : Ref sig .tc := ⟨.hbm, 115, rfl⟩
abbrev main_call0_v69 : Ref sig .tc := ⟨.hbm, 116, rfl⟩
abbrev main_call0_v70 : Ref sig .tc := ⟨.hbm, 117, rfl⟩
abbrev main_call0_v71 : Ref sig .tc := ⟨.hbm, 118, rfl⟩
abbrev main_call0_c_17 : Ref sig .tc := ⟨.hbm, 119, rfl⟩
abbrev main_call0_v72 : Ref sig .tc := ⟨.hbm, 120, rfl⟩
abbrev main_call0_v73 : Ref sig .tc := ⟨.hbm, 121, rfl⟩
abbrev main_call0_v74 : Ref sig .tc := ⟨.hbm, 122, rfl⟩
abbrev main_call0_c_18 : Ref sig .tc := ⟨.hbm, 123, rfl⟩
abbrev main_call0_v75 : Ref sig .tc := ⟨.hbm, 124, rfl⟩
abbrev main_call0_v76 : Ref sig .tc := ⟨.hbm, 125, rfl⟩
abbrev main_call0_c_19 : Ref sig .tc := ⟨.hbm, 126, rfl⟩
abbrev main_call0_v77 : Ref sig .tc := ⟨.hbm, 127, rfl⟩
abbrev main_call0_v78 : Ref sig .tc := ⟨.hbm, 128, rfl⟩
abbrev main_call0_v79 : Ref sig .tc := ⟨.hbm, 129, rfl⟩
abbrev main_call0_v80 : Ref sig .tc := ⟨.hbm, 130, rfl⟩
abbrev main_call0_v81 : Ref sig .tc := ⟨.hbm, 131, rfl⟩
abbrev main_call0_c_20 : Ref sig .tc := ⟨.hbm, 132, rfl⟩
abbrev main_call0_v82 : Ref sig .tc := ⟨.hbm, 133, rfl⟩
abbrev main_call0_v83 : Ref sig .tc := ⟨.hbm, 134, rfl⟩
abbrev main_call0_c_21 : Ref sig .tc := ⟨.hbm, 135, rfl⟩
abbrev main_call0_v84 : Ref sig .tc := ⟨.hbm, 136, rfl⟩
abbrev main_call0_v85 : Ref sig .tc := ⟨.hbm, 137, rfl⟩
abbrev main_call0_v86 : Ref sig .tc := ⟨.hbm, 138, rfl⟩
abbrev main_call0_v87 : Ref sig .tc := ⟨.hbm, 139, rfl⟩
abbrev main_call0_v88 : Ref sig .tc := ⟨.hbm, 140, rfl⟩
abbrev main_call0_c_22 : Ref sig .tc := ⟨.hbm, 141, rfl⟩
abbrev main_call0_v89 : Ref sig .tc := ⟨.hbm, 142, rfl⟩
abbrev main_call0_v90 : Ref sig .tc := ⟨.hbm, 143, rfl⟩
abbrev main_call0_c_23 : Ref sig .tc := ⟨.hbm, 144, rfl⟩
abbrev main_call0_v91 : Ref sig .tc := ⟨.hbm, 145, rfl⟩
abbrev main_call0_v92 : Ref sig .tc := ⟨.hbm, 146, rfl⟩
abbrev main_call0_v93 : Ref sig .tc := ⟨.hbm, 147, rfl⟩
abbrev main_call0_v94 : Ref sig .tc := ⟨.hbm, 148, rfl⟩
abbrev main_call0_v95 : Ref sig .tc := ⟨.hbm, 149, rfl⟩
abbrev main_call0_c_24 : Ref sig .tc := ⟨.hbm, 150, rfl⟩
abbrev main_call0_v96 : Ref sig .tc := ⟨.hbm, 151, rfl⟩
abbrev main_call0_v97 : Ref sig .tc := ⟨.hbm, 152, rfl⟩
abbrev main_call0_c_25 : Ref sig .tc := ⟨.hbm, 153, rfl⟩
abbrev main_call0_v98 : Ref sig .tc := ⟨.hbm, 154, rfl⟩
abbrev main_call0_v99 : Ref sig .tc := ⟨.hbm, 155, rfl⟩
abbrev main_call0_v100 : Ref sig .tc := ⟨.hbm, 156, rfl⟩
abbrev main_call0_v101 : Ref sig .tc := ⟨.hbm, 157, rfl⟩
abbrev main_call0_v102 : Ref sig .tc := ⟨.hbm, 158, rfl⟩
abbrev main_call0_v103 : Ref sig .tc := ⟨.hbm, 159, rfl⟩
abbrev main_call0_v104 : Ref sig .tc := ⟨.hbm, 160, rfl⟩
abbrev main_call0_v105 : Ref sig .tc := ⟨.hbm, 161, rfl⟩
abbrev main_call0_c_26 : Ref sig .tc := ⟨.hbm, 162, rfl⟩
abbrev main_call0_v106 : Ref sig .tc := ⟨.hbm, 163, rfl⟩
abbrev main_call0_v107 : Ref sig .tc := ⟨.hbm, 164, rfl⟩
abbrev main_call0_v108 : Ref sig .tc := ⟨.hbm, 165, rfl⟩
abbrev main_call0_c_27 : Ref sig .tc := ⟨.hbm, 166, rfl⟩
abbrev main_call0_v109 : Ref sig .tc := ⟨.hbm, 167, rfl⟩
abbrev main_call0_v110 : Ref sig .tc := ⟨.hbm, 168, rfl⟩
abbrev main_call0_c_28 : Ref sig .tc := ⟨.hbm, 169, rfl⟩
abbrev main_call0_v111 : Ref sig .tc := ⟨.hbm, 170, rfl⟩
abbrev main_call0_v112 : Ref sig .tc := ⟨.hbm, 171, rfl⟩
abbrev main_call0_v113 : Ref sig .tc := ⟨.hbm, 172, rfl⟩
abbrev main_call0_v114 : Ref sig .tc := ⟨.hbm, 173, rfl⟩
abbrev main_call0_v115 : Ref sig .tc := ⟨.hbm, 174, rfl⟩
abbrev main_call0_c_29 : Ref sig .tc := ⟨.hbm, 175, rfl⟩
abbrev main_call0_v116 : Ref sig .tc := ⟨.hbm, 176, rfl⟩
abbrev main_call0_v117 : Ref sig .tc := ⟨.hbm, 177, rfl⟩
abbrev main_call0_c_30 : Ref sig .tc := ⟨.hbm, 178, rfl⟩
abbrev main_call0_v118 : Ref sig .tc := ⟨.hbm, 179, rfl⟩
abbrev main_call0_v119 : Ref sig .tc := ⟨.hbm, 180, rfl⟩
abbrev main_call0_v120 : Ref sig .tc := ⟨.hbm, 181, rfl⟩
abbrev main_call0_v121 : Ref sig .tc := ⟨.hbm, 182, rfl⟩
abbrev main_call0_v122 : Ref sig .tc := ⟨.hbm, 183, rfl⟩
abbrev main_call0_c_31 : Ref sig .tc := ⟨.hbm, 184, rfl⟩
abbrev main_call0_v123 : Ref sig .tc := ⟨.hbm, 185, rfl⟩
abbrev main_call0_v124 : Ref sig .tc := ⟨.hbm, 186, rfl⟩
abbrev main_call0_c_32 : Ref sig .tc := ⟨.hbm, 187, rfl⟩
abbrev main_call0_v125 : Ref sig .tc := ⟨.hbm, 188, rfl⟩
abbrev main_call0_v126 : Ref sig .tc := ⟨.hbm, 189, rfl⟩
abbrev main_call0_v127 : Ref sig .tc := ⟨.hbm, 190, rfl⟩
abbrev main_call0_v128 : Ref sig .tc := ⟨.hbm, 191, rfl⟩
abbrev main_call0_v129 : Ref sig .tc := ⟨.hbm, 192, rfl⟩
abbrev main_call0_c_33 : Ref sig .tc := ⟨.hbm, 193, rfl⟩
abbrev main_call0_v130 : Ref sig .tc := ⟨.hbm, 194, rfl⟩
abbrev main_call0_v131 : Ref sig .tc := ⟨.hbm, 195, rfl⟩
abbrev main_call0_c_34 : Ref sig .tc := ⟨.hbm, 196, rfl⟩
abbrev main_call0_v132 : Ref sig .tc := ⟨.hbm, 197, rfl⟩
abbrev main_call0_v133 : Ref sig .tc := ⟨.hbm, 198, rfl⟩
abbrev main_call0_v134 : Ref sig .tc := ⟨.hbm, 199, rfl⟩
abbrev main_call0_v135 : Ref sig .tc := ⟨.hbm, 200, rfl⟩
abbrev main_call0_v136 : Ref sig .tc := ⟨.hbm, 201, rfl⟩
abbrev main_call0_v137 : Ref sig .tc := ⟨.hbm, 202, rfl⟩
abbrev main_call0_v138 : Ref sig .tc := ⟨.hbm, 203, rfl⟩
abbrev main_call0_v139 : Ref sig .tc := ⟨.hbm, 204, rfl⟩
abbrev main_call0_c_35 : Ref sig .tc := ⟨.hbm, 205, rfl⟩
abbrev main_call0_v140 : Ref sig .tc := ⟨.hbm, 206, rfl⟩
abbrev main_call0_v141 : Ref sig .tc := ⟨.hbm, 207, rfl⟩
abbrev main_call0_v142 : Ref sig .tc := ⟨.hbm, 208, rfl⟩
abbrev main_call0_c_36 : Ref sig .tc := ⟨.hbm, 209, rfl⟩
abbrev main_call0_v143 : Ref sig .tc := ⟨.hbm, 210, rfl⟩
abbrev main_call0_v144 : Ref sig .tc := ⟨.hbm, 211, rfl⟩
abbrev main_call0_c_37 : Ref sig .tc := ⟨.hbm, 212, rfl⟩
abbrev main_call0_v145 : Ref sig .tc := ⟨.hbm, 213, rfl⟩
abbrev main_call0_v146 : Ref sig .tc := ⟨.hbm, 214, rfl⟩
abbrev main_call0_v147 : Ref sig .tc := ⟨.hbm, 215, rfl⟩
abbrev main_call0_v148 : Ref sig .tc := ⟨.hbm, 216, rfl⟩
abbrev main_call0_v149 : Ref sig .tc := ⟨.hbm, 217, rfl⟩
abbrev main_call0_c_38 : Ref sig .tc := ⟨.hbm, 218, rfl⟩
abbrev main_call0_v150 : Ref sig .tc := ⟨.hbm, 219, rfl⟩
abbrev main_call0_v151 : Ref sig .tc := ⟨.hbm, 220, rfl⟩
abbrev main_call0_c_39 : Ref sig .tc := ⟨.hbm, 221, rfl⟩
abbrev main_call0_v152 : Ref sig .tc := ⟨.hbm, 222, rfl⟩
abbrev main_call0_v153 : Ref sig .tc := ⟨.hbm, 223, rfl⟩
abbrev main_call0_v154 : Ref sig .tc := ⟨.hbm, 224, rfl⟩
abbrev main_call0_v155 : Ref sig .tc := ⟨.hbm, 225, rfl⟩
abbrev main_call0_v156 : Ref sig .tc := ⟨.hbm, 226, rfl⟩
abbrev main_call0_c_40 : Ref sig .tc := ⟨.hbm, 227, rfl⟩
abbrev main_call0_v157 : Ref sig .tc := ⟨.hbm, 228, rfl⟩
abbrev main_call0_v158 : Ref sig .tc := ⟨.hbm, 229, rfl⟩
abbrev main_call0_c_41 : Ref sig .tc := ⟨.hbm, 230, rfl⟩
abbrev main_call0_v159 : Ref sig .tc := ⟨.hbm, 231, rfl⟩
abbrev main_call0_v160 : Ref sig .tc := ⟨.hbm, 232, rfl⟩
abbrev main_call0_v161 : Ref sig .tc := ⟨.hbm, 233, rfl⟩
abbrev main_call0_v162 : Ref sig .tc := ⟨.hbm, 234, rfl⟩
abbrev main_call0_v163 : Ref sig .tc := ⟨.hbm, 235, rfl⟩
abbrev main_call0_c_42 : Ref sig .tc := ⟨.hbm, 236, rfl⟩
abbrev main_call0_v164 : Ref sig .tc := ⟨.hbm, 237, rfl⟩
abbrev main_call0_v165 : Ref sig .tc := ⟨.hbm, 238, rfl⟩
abbrev main_call0_c_43 : Ref sig .tc := ⟨.hbm, 239, rfl⟩
abbrev main_call0_v166 : Ref sig .tc := ⟨.hbm, 240, rfl⟩
abbrev main_call0_v167 : Ref sig .tc := ⟨.hbm, 241, rfl⟩
abbrev main_call0_v168 : Ref sig .tc := ⟨.hbm, 242, rfl⟩
abbrev main_call0_v169 : Ref sig .tc := ⟨.hbm, 243, rfl⟩
abbrev main_call0_v170 : Ref sig .tc := ⟨.hbm, 244, rfl⟩
abbrev main_v22_0 : Ref sig .tc := ⟨.hbm, 245, rfl⟩
abbrev main_call0_v172 : Ref sig .tc := ⟨.hbm, 246, rfl⟩
abbrev main_call0_v173 : Ref sig .tc := ⟨.hbm, 247, rfl⟩
abbrev main_call0_c_44 : Ref sig .tc := ⟨.hbm, 248, rfl⟩
abbrev main_call0_v174 : Ref sig .tc := ⟨.hbm, 249, rfl⟩
abbrev main_v22_1 : Ref sig .tc := ⟨.hbm, 250, rfl⟩
abbrev main_v23 : Ref sig .tc := ⟨.hbm, 251, rfl⟩
abbrev main_c_5 : Ref sig .tc := ⟨.hbm, 252, rfl⟩
abbrev main_v24 : Ref sig .tc := ⟨.hbm, 253, rfl⟩
abbrev main_v25 : Ref sig .tc := ⟨.hbm, 254, rfl⟩
abbrev main_c_6 : Ref sig .tc := ⟨.hbm, 255, rfl⟩
abbrev main_v26 : Ref sig .tc := ⟨.hbm, 256, rfl⟩
abbrev main_v27 : Ref sig .tc := ⟨.hbm, 257, rfl⟩
abbrev main_v28 : Ref sig .tc := ⟨.hbm, 258, rfl⟩
abbrev main_cst : Ref sig .tc := ⟨.hbm, 259, rfl⟩
abbrev main_v29 : Ref sig .tc := ⟨.hbm, 260, rfl⟩
abbrev main_v30 : Ref sig .tc := ⟨.hbm, 261, rfl⟩
abbrev main_cst_7 : Ref sig .tc := ⟨.hbm, 262, rfl⟩
abbrev main_v31 : Ref sig .tc := ⟨.hbm, 263, rfl⟩
abbrev main_v32 : Ref sig .tc := ⟨.hbm, 264, rfl⟩
abbrev main_cst_8 : Ref sig .tc := ⟨.hbm, 265, rfl⟩
abbrev main_call1_v0 : Ref sig .tc := ⟨.hbm, 266, rfl⟩
abbrev main_v33 : Ref sig .tc := ⟨.hbm, 267, rfl⟩
abbrev main_v34 : Ref sig .tc := ⟨.hbm, 268, rfl⟩
abbrev main_v35 : Ref sig .tc := ⟨.hbm, 269, rfl⟩
abbrev main_v36 : Ref sig .tc := ⟨.hbm, 270, rfl⟩
abbrev main_v37 : Ref sig .tc := ⟨.hbm, 271, rfl⟩
abbrev main_v38 : Ref sig .tc := ⟨.hbm, 272, rfl⟩
abbrev main_call2_v0 : Ref sig .tc := ⟨.hbm, 273, rfl⟩
abbrev main_call2_cst : Ref sig .tc := ⟨.hbm, 274, rfl⟩
abbrev main_call2_c : Ref sig .tc := ⟨.hbm, 275, rfl⟩
abbrev main_call2_v1_0 : Ref sig .tc := ⟨.hbm, 276, rfl⟩
abbrev main_v39 : Ref sig .tc := ⟨.hbm, 277, rfl⟩

abbrev nD : Nat := 1
abbrev τ : Topo := Topo.v7x

variable {F : FTy → Type} [FloatOps F]
-- ==== Proof.Body.lean ====
/- The kernel's body, folded: the printed body of a grid point is a fold of one step over the 128 lane groups of its
   block. `bits` is the threefry-2x32 counter hash at key (0, 42), `value` the Gumbel-shifted logit of a position,
   `newMax` / `newArg` the running maximum and its position after one more group, and `body` the whole point. -/
module

public import proofs.«01_k».proof.Proof.Gen.KernelIdeal
public import Idealize.ShloMosaic.Lib.Tactic

@[expose] public section

set_option maxRecDepth 16384

noncomputable section

namespace Cert.Draw

open Idealize.ShloMosaic Idealize.SL.Sem
open Cert.KernelIdeal Cert.KernelIdeal.Facts₀ Cert.KernelIdeal.Facts

variable {F : FTy → Type} [FloatOps F]

/-! ## One lane group -/

/-- One mixing round's second word: `y` rotated left by `r` bits (`l = 32 - r`), exclusive-or `x`. -/
def turn (y x : IVec S32x128 32) (r l : BitVec 32) : IVec S32x128 32 :=
  xori (ori (shli y (broadcast S32x128 r)) (shrui y (broadcast S32x128 l))) x

/-- Four mixing rounds of the words `(x, y)` with rotations `r₁ … r₄`: the first word. -/
def four₀ (x y : IVec S32x128 32) (r₁ l₁ r₂ l₂ r₃ l₃ : BitVec 32) : IVec S32x128 32 :=
  have x₁ := addi x y
  have y₁ := turn y x₁ r₁ l₁
  have x₂ := addi x₁ y₁
  have y₂ := turn y₁ x₂ r₂ l₂
  have x₃ := addi x₂ y₂
  have y₃ := turn y₂ x₃ r₃ l₃
  addi x₃ y₃
/-- And the second word. -/
def four₁ (x y : IVec S32x128 32) (r₁ l₁ r₂ l₂ r₃ l₃ r₄ l₄ : BitVec 32) : IVec S32x128 32 :=
  have x₁ := addi x y
  have y₁ := turn y x₁ r₁ l₁
  have x₂ := addi x₁ y₁
  have y₂ := turn y₁ x₂ r₂ l₂
  have x₃ := addi x₂ y₂
  have y₃ := turn y₂ x₃ r₃ l₃
  turn y₃ (addi x₃ y₃) r₄ l₄

/-- The random word of counter `y` (plus the key's 42): threefry-2x32 on the counter pair `(0, y - 42)` at the key
    pair `(0, 42)`, twenty rounds, its two output words exclusive-ored. -/
def bits (y : IVec S32x128 32) : IVec S32x128 32 :=
  have y₁ := turn y y 13#32 19#32
  have x₁ := addi y y₁
  have y₂ := turn y₁ x₁ 15#32 17#32
  have x₂ := addi x₁ y₂
  have y₃ := turn y₂ x₂ 26#32 6#32
  have x₃ := addi x₂ y₃
  have y₄ := turn y₃ x₃ 6#32 26#32
  have a₀ := addi x₃ (broadcast S32x128 42#32)
  have a₁ := addi y₄ (broadcast S32x128 466689009#32)
  have b₀ := addi (four₀ a₀ a₁ 17#32 15#32 29#32 3#32 16#32 16#32) (broadcast S32x128 466689008#32)
  have b₁ := addi (four₁ a₀ a₁ 17#32 15#32 29#32 3#32 16#32 16#32 24#32 8#32) (broadcast S32x128 2#32)
  have c₀ := four₀ b₀ b₁ 13#32 19#32 15#32 17#32 26#32 6#32
  have c₁ := addi (four₁ b₀ b₁ 13#32 19#32 15#32 17#32 26#32 6#32 6#32 26#32) (broadcast S32x128 45#32)
  have d₀ := addi (four₀ c₀ c₁ 17#32 15#32 29#32 3#32 16#32 16#32) (broadcast S32x128 42#32)
  have d₁ := addi (four₁ c₀ c₁ 17#32 15#32 29#32 3#32 16#32 16#32 24#32 8#32) (broadcast S32x128 466689012#32)
  have e₀ := addi (four₀ d₀ d₁ 13#32 19#32 15#32 17#32 26#32 6#32) (broadcast S32x128 466689008#32)
  have e₁ := addi (four₁ d₀ d₁ 13#32 19#32 15#32 17#32 26#32 6#32 6#32 26#32) (broadcast S32x128 5#32)
  xori e₀ e₁

/-- The uniform draw of counters `y`, clamped to the least normal number from below. -/
def unif (y : IVec S32x128 32) : FVec F S32x128 .f32 :=
  maximumf (addf (bitcastToFloat .f32 (ori (shrui (bits y) (broadcast S32x128 9#32)) (broadcast S32x128 1065353216#32)))
      (broadcast S32x128 (Scalar.ofBits .f32 0xBF800000#32)))
    (broadcast S32x128 (Scalar.ofBits .f32 0x00800000#32))

/-- The Gumbel-shifted logits `x` of counters `y`; minus infinity from `bound` on. -/
def value (bound y : IVec S32x128 32) (x : Vec F S32x128 .f32) : FVec F S32x128 .f32 :=
  select (cmpi .slt y bound)
    (subf x (log (subf (broadcast S32x128 (Scalar.ofBits .f32 0x00000000#32)) (log (unif y)))))
    (broadcast S32x128 (Scalar.ofBits .f32 0xFF800000#32))

/-- The running maximum after the group at counters `y` with logits `x`, -/
def newMax (bound y : IVec S32x128 32) (x m : Vec F S32x128 .f32) : FVec F S32x128 .f32 :=
  select (cmpf .ogt (value bound y x) m) (value bound y x) m
/-- and its counter: replaced where the group's value is strictly larger. -/
def newArg (bound y : IVec S32x128 32) (x m : Vec F S32x128 .f32) (a : IVec S32x128 32) : IVec S32x128 32 :=
  select (cmpf .ogt (value bound y x) m) y a

/-- The counters of lane group `j`, from those of group 0. -/
def group (y : IVec S32x128 32) (j : Nat) : IVec S32x128 32 := addi y (broadcast S32x128 (BitVec.ofNat 32 (128 * j)))

/-- The first counter of each row of point `i`'s rows: row times 1000000. -/
def rowBase (i : grid0.Coords) : IVec S32x128 32 :=
  muli (addi (broadcast S32x128 (Scalar.muli (BitVec.ofNat 32 (i 0).val) 32#32)) (iota .tc S32x128 32 [0] iota_S32x128_d0_w32))
    (broadcast S32x128 1000000#32)
/-- The counters of point `i`'s lane group 0, the block's column offset being `o`, -/
def lin0 (i : grid0.Coords) (o : BitVec 32) : IVec S32x128 32 :=
  addi (addi (rowBase i) (broadcast S32x128 (Scalar.addi o (Scalar.addi (Scalar.muli (BitVec.ofNat 32 (i 1).val) 16384#32) 42#32))))
    (iota .tc S32x128 32 [1] iota_S32x128_d1_w32)
/-- and the counters its rows end before. -/
def bound (i : grid0.Coords) (o : BitVec 32) : IVec S32x128 32 :=
  addi (rowBase i) (broadcast S32x128 (Scalar.addi o 1000042#32))

/-- What the last point of a row block stores: each row's maximum over the lanes, -/
def rowMax (m : FVec F S32x128 .f32) : FVec F S32x1 .f32 :=
  shapeCast S32x1 (multiReduction .maximumf [1] S32 m 0xFF800000#32 reduces_S32x128_S32 (.inl rfl) rfl) shapeCasts_S32_S32x1
/-- and the least counter that holds it, less the row's first counter. -/
def rowArg (i : grid0.Coords) (m : FVec F S32x128 .f32) (a : IVec S32x128 32) : IVec S32x1 32 :=
  subi (shapeCast S32x1 (multiReductionI .minsi [1] S32
      (select (cmpf .oeq m (broadcastTo S32x128 (rowMax m) broadcasts_S32x1_S32x128)) a (broadcast S32x128 2147483647#32))
      2147483647#32 reduces_S32x128_S32 rfl) shapeCasts_S32_S32x1)
    (extractStridedSlice S32x1 ![0, 0] (rowBase i) slices_S32x128_o0_0_S32x1)

/-! ## The point -/

/-- Lane group `j` of a block. -/
def groupRect (j : Nat) (h : j < 128) : Rect S32x16384 :=
  Rect.unit (s := S32x16384) ![0, 128 * j] S32x128.size fun a => by
    fin_cases a
    · exact Nat.le_refl 32
    · change 128 * j + 128 ≤ 16384; omega

/-- The program of a type. -/
abbrev P (F : FTy → Type) [FloatOps F] := Prog (TpuEff nD τ sig (Elt F) Λ₀ .tc) PUnit

/-- The last `k` lane groups of the block `arg3`, from running maximum `m` and its counters `a`; then `K`. -/
def groups (arg3 : Memref sig .tc .vmem S32x16384 .f32) (y b : IVec S32x128 32)
    (K : Vec F S32x128 .f32 → IVec S32x128 32 → P F) :
    (k : Nat) → k ≤ 128 → Vec F S32x128 .f32 → IVec S32x128 32 → P F
  | 0, _, m, a => K m a
  | k + 1, h, m, a => .op (.load arg3 (groupRect (127 - k) (by omega)).toLoadRect (View.loadsAt_vmem h_S32x128)) fun x =>
      groups arg3 y b K k (by omega) (newMax b (group y (127 - k)) x m) (newArg b (group y (127 - k)) x m a)

/-- The 32×128 rectangle of a 32×128 buffer: all of it. -/
abbrev scrRect : Rect S32x128 := Rect.unit (s := S32x128) ![0, 0] S32x128.size inb_S32x128_S32x128_0_0
/-- And of a 32×1 buffer. -/
abbrev colRect : Rect S32x1 := Rect.unit (s := S32x1) ![0, 0] S32x1.size inb_S32x1_S32x1_0_0

/-- The first block of a row of blocks. -/
abbrev isFirst (i : grid0.Coords) : Prop :=
  Scalar.cmpi .ne (Scalar.extui (Scalar.cmpi .eq (BitVec.ofNat 32 (i 1).val) 0#32) : BitVec 32) 0#32 = 1#1

/-- At the first block of a row of blocks: the maxima to minus infinity, their counters to the largest integer. -/
def init (i : grid0.Coords) (arg6 : Memref sig .tc .vmem S32x128 .f32) (arg7 : Memref sig .tc .vmem S32x128 .i32) : P F :=
  if isFirst i then do
    let _ ← Prog.lift (.load arg6 scrRect.toLoadRect (View.loadsAt_vmem h_S32x128))
    Prog.lift (.store arg6 scrRect (shapeCast S32x128 (broadcast S32x128 (Scalar.ofBits .f32 0xFF800000#32)) shapeCasts_S32x128_S32x128 : FVec F S32x128 .f32) Finset.univ (View.stores_vmem_bits_univ h_S32x128 rfl) (.inl rfl))
    let _ ← Prog.lift (.load arg7 scrRect.toLoadRect (View.loadsAt_vmem h_S32x128))
    Prog.lift (.store arg7 scrRect (shapeCast S32x128 (broadcast S32x128 2147483647#32) shapeCasts_S32x128_S32x128 : IVec S32x128 32) Finset.univ (View.stores_vmem_bits_univ h_S32x128 rfl) (.inl rfl))
  else pure ⟨⟩

/-- At the last block of a row of blocks: the rows' maxima and the columns that hold them, to the results. -/
def finish (i : grid0.Coords) (arg4 : Memref sig .tc .vmem S32x1 .f32) (arg5 : Memref sig .tc .vmem S32x1 .i32)
    (arg6 : Memref sig .tc .vmem S32x128 .f32) (arg7 : Memref sig .tc .vmem S32x128 .i32) : P F :=
  if k0_cond2 i = 1#1 then do
    let m : Vec F S32x128 .f32 ← Prog.lift (.load arg6 scrRect.toLoadRect (View.loadsAt_vmem h_S32x128))
    let a : Vec F S32x128 .i32 ← Prog.lift (.load arg7 scrRect.toLoadRect (View.loadsAt_vmem h_S32x128))
    let _ ← Prog.lift (.load arg4 colRect.toLoadRect (View.loadsAt_vmem h_S32x1))
    Prog.lift (.store arg4 colRect (rowMax m) Finset.univ (View.stores_vmem_bits_univ h_S32x1 rfl) (.inl rfl))
    let _ ← Prog.lift (.load arg5 colRect.toLoadRect (View.loadsAt_vmem h_S32x1))
    Prog.lift (.store arg5 colRect (rowArg i m a) Finset.univ (View.stores_vmem_bits_univ h_S32x1 rfl) (.inl rfl))
  else pure ⟨⟩

/-- Every point: the block's 128 lane groups folded into the maxima and their counters; then `finish`. -/
def rest (i : grid0.Coords) (arg2 : Memref sig .tc .smem S1 .i32) (arg3 : Memref sig .tc .vmem S32x16384 .f32)
    (arg4 : Memref sig .tc .vmem S32x1 .f32) (arg5 : Memref sig .tc .vmem S32x1 .i32)
    (arg6 : Memref sig .tc .vmem S32x128 .f32) (arg7 : Memref sig .tc .vmem S32x128 .i32) : P F := do
  let o : Elt F .i32 ← smemLoad arg2 (Rect.unit (s := S1) ![0] S1.size inb_S1_S1_0) numel1_S1 rfl
  let o' : Elt F .i32 ← smemLoad arg2 (Rect.unit (s := S1) ![0] S1.size inb_S1_S1_0) numel1_S1 rfl
  let m : Vec F S32x128 .f32 ← Prog.lift (.load arg6 scrRect.toLoadRect (View.loadsAt_vmem h_S32x128))
  let a : Vec F S32x128 .i32 ← Prog.lift (.load arg7 scrRect.toLoadRect (View.loadsAt_vmem h_S32x128))
  groups arg3 (lin0 i o) (bound i o') (fun m a => do
    let _ ← Prog.lift (.load arg6 scrRect.toLoadRect (View.loadsAt_vmem h_S32x128))
    Prog.lift (.store arg6 scrRect (shapeCast S32x128 m shapeCasts_S32x128_S32x128) Finset.univ (View.stores_vmem_bits_univ h_S32x128 rfl) (.inl rfl))
    let _ ← Prog.lift (.load arg7 scrRect.toLoadRect (View.loadsAt_vmem h_S32x128))
    Prog.lift (.store arg7 scrRect (shapeCast S32x128 a shapeCasts_S32x128_S32x128) Finset.univ (View.stores_vmem_bits_univ h_S32x128 rfl) (.inl rfl))
    finish i arg4 arg5 arg6 arg7) 128 (Nat.le_refl _) m a

/-- The printed body: `init`, then `rest`. -/
theorem body_eq (i : grid0.Coords) (arg2 : Memref sig .tc .smem S1 .i32) (harg2) (arg3 : Memref sig .tc .vmem S32x16384 .f32) (harg3)
    (arg4 : Memref sig .tc .vmem S32x1 .f32) (harg4) (arg5 : Memref sig .tc .vmem S32x1 .i32) (harg5)
    (arg6 : Memref sig .tc .vmem S32x128 .f32) (harg6) (arg7 : Memref sig .tc .vmem S32x128 .i32) (harg7) :
    cc0__sample_kernel (F := F) i arg2 harg2 arg3 harg3 arg4 harg4 arg5 harg5 arg6 harg6 arg7 harg7
      = (init i arg6 arg7 >>= fun _ => rest i arg2 arg3 arg4 arg5 arg6 arg7) := by
  unfold cc0__sample_kernel k0_part511 k0_part1 init
  by_cases h : isFirst i
  · rw [dif_pos h, if_pos h]
    sl_kernel_rfl
  · rw [dif_neg h, if_neg h]
    sl_kernel_rfl

end Cert.Draw

end
-- ==== Proof.Owns.lean ====
/- Loading from and storing to a buffer owned through a memref: the two program rules the body's run takes. -/
module

public import Idealize.ShloMosaic.Lib.Pipeline.FrameSuffix
public import Idealize.ShloMosaic.Lib.Tactic

@[expose] public section

noncomputable section

namespace Cert.Draw

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {Ix : Type} [DecidableEq Ix] {Name : Type} [DecidableEq Name] {U : Type} [URA U] {Lvl : Type} [Preorder Lvl]
variable {defs : Defs nD τ sig Val Λ} (𝒱 : Variants) (c : Thread nD τ) (bd : Option 𝒱.V) (E : Set Name)
variable {s : Shape} {e : EltTy} {cs : CoreSpace} {α : Type}

local notation "𝕄" => MT nD τ sig Ix Val Name U Lvl

/-- A load from an owned memref reads the contents at the rectangle's positions, and keeps it owned. -/
theorem owns_load {m : Memref sig c.2.kind cs s e} {r : LoadRect s} {hl : m.view.LoadsAt r}
    {k : (r.shape.Idx → Val e) → Prog (TpuEff nD τ sig Val Λ c.2) α} {q : PosShare TreeShare} {X : s.Idx → Val e}
    {Q : α → sProp 𝕄} :
    owns c m q X ⊢ iprop((owns c m q X -∗ wp frame (wpE defs 𝒱 c bd) E (k fun x => X (r.idx x)) Q)
        -∗ wp frame (wpE defs 𝒱 c bd) E (.op (.load m r hl) k) Q) := by
  unfold owns
  iintro ⟨%f, %hf, H⟩ Hk
  subst hf
  iapply (wp_load 𝒱 c bd E (m := m) (r := r) (hl := hl) (k := k) (q := q) (f := f) (S := m.view.set) (by
    exact m.view.setOn_subset_set _)) $$ H
  iintro H
  iapply Hk
  iexists f
  isplitr
  · ipureintro; rfl
  · iexact H

/-- The rectangle of a whole buffer places each position at itself. -/
theorem idx_whole_unit {off : Fin s.rank → Nat} (h0 : off = fun _ => 0) {inb : ∀ a, off a + s.size a ≤ s.size a}
    (x : s.Idx) : (Rect.unit off s.size inb).toLoadRect.idx x = x := by
  subst h0
  funext a
  apply Fin.ext
  change 0 + 1 * (x a).val = (x a).val
  omega

/-- A load of a whole owned memref reads its contents. -/
theorem owns_load_whole {m : Memref sig c.2.kind cs s e} {off : Fin s.rank → Nat} (h0 : off = fun _ => 0)
    {inb : ∀ a, off a + s.size a ≤ s.size a} {hl : m.view.LoadsAt (Rect.unit off s.size inb).toLoadRect}
    {k : (s.Idx → Val e) → Prog (TpuEff nD τ sig Val Λ c.2) α} {q : PosShare TreeShare} {X : s.Idx → Val e}
    {Q : α → sProp 𝕄} :
    owns c m q X ⊢ iprop((owns c m q X -∗ wp frame (wpE defs 𝒱 c bd) E (k X) Q)
        -∗ wp frame (wpE defs 𝒱 c bd) E (.op (.load m (Rect.unit off s.size inb).toLoadRect hl) k) Q) := by
  have h := owns_load (defs := defs) 𝒱 c bd E (m := m) (hl := hl) (k := k) (q := q) (X := X) (Q := Q)
  rwa [show (fun x => X ((Rect.unit off s.size inb).toLoadRect.idx x)) = X from
    funext fun x => congrArg X (idx_whole_unit h0 x)] at h

/-- A store of a whole owned memref leaves it owned at what was stored. -/
theorem owns_store {m : Memref sig c.2.kind cs s e} (hm : m.IsWhole) {off : Fin s.rank → Nat} (h0 : off = fun _ => 0)
    {inb : ∀ a, off a + s.size a ≤ s.size a} {w : s.Idx → Val e}
    {hx : (m.access (Rect.unit off s.size inb)).Stores Finset.univ} {hu}
    {k : PUnit → Prog (TpuEff nD τ sig Val Λ c.2) α} {X : s.Idx → Val e}
    {Q : α → sProp 𝕄} :
    owns c m fullShare X ⊢ iprop((owns c m fullShare w -∗ wp frame (wpE defs 𝒱 c bd) E (k ⟨⟩) Q)
        -∗ wp frame (wpE defs 𝒱 c bd) E (.op (.store m (Rect.unit off s.size inb) w Finset.univ hx hu) k) Q) := by
  obtain ⟨⟨sp, i, hn⟩, hsp, rfl, rfl, h⟩ := hm
  change sp = Space.core cs at hsp
  subst hsp
  cases h
  have h := wp_store (defs := defs) 𝒱 c bd (Γ := .empty) E (Q := Q) (m := Memref.whole ⟨_, i, hn⟩) (r := Rect.unit off _ inb) (w := w)
    (Mk := Finset.univ) (hx := hx) (hm := hu) (k := k) (f := X) (S := Finset.univ) (Finset.subset_univ _)
  rw [Memref.write_access_unit_zero_univ _ ⟨_, i, hn⟩ h0] at h
  have e₁ := owns_whole (Ix := Ix) (Name := Name) (U := U) (Lvl := Lvl) c ⟨_, i, hn⟩ fullShare X
  have e₂ := owns_whole (Ix := Ix) (Name := Name) (U := U) (Lvl := Lvl) c ⟨_, i, hn⟩ fullShare w
  exact (BI.equiv_iff.mpr e₁).1.trans (h.trans (wand_mono (wand_mono (BI.equiv_iff.mpr e₂).2 .rfl) .rfl))

end Cert.Draw

end
-- ==== Proof.Triple.lean ====
/- What one grid point does: run from its block of logits and the running maxima with their counters, the body leaves
   the block alone, the maxima and counters advanced over the block (`step`), and at the last block of a row of blocks
   the two result blocks stored. -/
module

public import proofs.«01_k».proof.Proof.Body
public import proofs.«01_k».proof.Proof.Owns
public import Idealize.ShloMosaic.Lib.Pipeline.Value

@[expose] public section

noncomputable section

namespace Cert.Draw

open Cert.KernelIdeal Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The state of the draw -/

/-- The running maxima of a row block's lanes, with their counters. -/
abbrev St (F : FTy → Type) [FloatOps F] := FVec F S32x128 .f32 × IVec S32x128 32

/-- Lane group `j` of a block's contents. -/
def lanes (X : Vec F S32x16384 .f32) (j : Nat) (h : j < 128) : Vec F S32x128 .f32 :=
  fun x => X ((groupRect j h).toLoadRect.idx x)

/-- The state after the last `k` lane groups of a block. -/
def foldGroups (X : Vec F S32x16384 .f32) (y b : IVec S32x128 32) : (k : Nat) → k ≤ 128 → St F → St F
  | 0, _, s => s
  | k + 1, h, s => foldGroups X y b k (by omega)
      (newMax b (group y (127 - k)) (lanes X (127 - k) (by omega)) s.1,
        newArg b (group y (127 - k)) (lanes X (127 - k) (by omega)) s.1 s.2)

/-- The state a row of blocks starts from: no maximum, the largest counter. -/
def empty : St F := (broadcast S32x128 (Scalar.ofBits .f32 0xFF800000#32), broadcast S32x128 2147483647#32)

/-- The state after point `i` on block `X` from state `s`. -/
def step (i : grid0.Coords) (X : Vec F S32x16384 .f32) (s : St F) : St F :=
  foldGroups X (lin0 i 0#32) (bound i 0#32) 128 (Nat.le_refl _) (if isFirst i then empty else s)

local notation "𝕄" => MT nD τ sig Unit (Elt F) ℕ (UR sig nD τ) ℕ

/-- No variants. -/
abbrev 𝒱₀ : Variants := Variants.none

variable (c : Dev nD) (E : Set ℕ)

local notation "WP" => wp frame (wpE (defs₀ (F := F)) 𝒱₀ (c : Thread nD τ) none) E

theorem off₂ : (![0, 0] : Fin 2 → Nat) = fun _ => 0 := funext fun a => by fin_cases a <;> rfl

/-- A program that is done runs to any postcondition that holds. -/
theorem ret_intro (Q : PUnit → sProp 𝕄) : Q ⟨⟩ ⊢ WP (.ret ⟨⟩) Q := by
  rw [wp_ret]
  iintro H
  imodintro
  iexact H

/-- The lane groups fold the state. -/
theorem wp_groups (arg3 : Memref sig .tc .vmem S32x16384 .f32) (X : Vec F S32x16384 .f32) (y b : IVec S32x128 32)
    (K : Vec F S32x128 .f32 → IVec S32x128 32 → P F) (Q : PUnit → sProp 𝕄) :
    ∀ (k : Nat) (h : k ≤ 128) (s : St F),
      owns (c : Thread nD τ) arg3 fullShare X
        ⊢ iprop((owns (c : Thread nD τ) arg3 fullShare X -∗ WP (K (foldGroups X y b k h s).1 (foldGroups X y b k h s).2) Q)
          -∗ WP (groups arg3 y b K k h s.1 s.2) Q)
  | 0, _, s => by
    iintro H Hk
    iapply Hk $$ H
  | k + 1, h, s => by
    iintro H Hk
    unfold groups
    iapply (owns_load 𝒱₀ (c : Thread nD τ) none E) $$ H
    iintro H
    iapply (wp_groups arg3 X y b K Q k (by omega) (newMax b (group y (127 - k)) (lanes X (127 - k) (by omega)) s.1,
        newArg b (group y (127 - k)) (lanes X (127 - k) (by omega)) s.1 s.2)) $$ H
    iexact Hk

/-- `init` leaves the state a row of blocks starts from at its first block, and any other's state alone. -/
theorem wp_init (i : grid0.Coords) (arg6 : Memref sig .tc .vmem S32x128 .f32) (arg7 : Memref sig .tc .vmem S32x128 .i32)
    (h6 : arg6.IsWhole) (h7 : arg7.IsWhole) (s : St F) (K : PUnit → P F) (Q : PUnit → sProp 𝕄) :
    iprop(owns (c : Thread nD τ) arg6 fullShare s.1 ∗ owns (c : Thread nD τ) arg7 fullShare s.2)
      ⊢ iprop((iprop(owns (c : Thread nD τ) arg6 fullShare (if isFirst i then empty else s).1
            ∗ owns (c : Thread nD τ) arg7 fullShare (if isFirst i then empty else s).2) -∗ WP (K ⟨⟩) Q)
          -∗ WP (init i arg6 arg7 >>= K) Q) := by
  unfold init
  by_cases h : isFirst i
  · rw [if_pos h, if_pos h, Idealize.ShloMosaic.shapeCast_self, Idealize.ShloMosaic.shapeCast_self]
    iintro ⟨H6, H7⟩ Hk
    iapply (owns_load 𝒱₀ (c : Thread nD τ) none E) $$ H6
    iintro H6
    iapply (owns_store 𝒱₀ (c : Thread nD τ) none E h6 off₂) $$ H6
    iintro H6
    iapply (owns_load 𝒱₀ (c : Thread nD τ) none E) $$ H7
    iintro H7
    iapply (owns_store 𝒱₀ (c : Thread nD τ) none E h7 off₂) $$ H7
    iintro H7
    iapply Hk
    isplitl [H6]
    · iexact H6
    · iexact H7
  · rw [if_neg h, if_neg h]
    iintro H Hk
    iapply Hk
    iexact H

/-- `finish` stores the rows' maxima and columns at the last block of a row of blocks, and nothing at any other. -/
theorem wp_finish (i : grid0.Coords) (arg4 : Memref sig .tc .vmem S32x1 .f32) (arg5 : Memref sig .tc .vmem S32x1 .i32)
    (arg6 : Memref sig .tc .vmem S32x128 .f32) (arg7 : Memref sig .tc .vmem S32x128 .i32)
    (h4 : arg4.IsWhole) (h5 : arg5.IsWhole) (s : St F) (U : Vec F S32x1 .f32) (V : IVec S32x1 32) (Q : PUnit → sProp 𝕄) :
    iprop(owns (c : Thread nD τ) arg4 fullShare U ∗ owns (c : Thread nD τ) arg5 fullShare V
        ∗ owns (c : Thread nD τ) arg6 fullShare s.1 ∗ owns (c : Thread nD τ) arg7 fullShare s.2)
      ⊢ iprop((iprop(owns (c : Thread nD τ) arg4 fullShare (if k0_cond2 i = 1#1 then rowMax s.1 else U)
            ∗ owns (c : Thread nD τ) arg5 fullShare (if k0_cond2 i = 1#1 then rowArg i s.1 s.2 else V)
            ∗ owns (c : Thread nD τ) arg6 fullShare s.1 ∗ owns (c : Thread nD τ) arg7 fullShare s.2) -∗ Q ⟨⟩)
          -∗ WP (finish i arg4 arg5 arg6 arg7) Q) := by
  unfold finish
  by_cases h : k0_cond2 i = 1#1
  · simp only [if_pos h]
    iintro ⟨H4, H5, H6, H7⟩ Hk
    iapply (owns_load_whole 𝒱₀ (c : Thread nD τ) none E off₂) $$ H6
    iintro H6
    iapply (owns_load_whole 𝒱₀ (c : Thread nD τ) none E off₂) $$ H7
    iintro H7
    iapply (owns_load 𝒱₀ (c : Thread nD τ) none E) $$ H4
    iintro H4
    iapply (owns_store 𝒱₀ (c : Thread nD τ) none E h4 off₂) $$ H4
    iintro H4
    iapply (owns_load 𝒱₀ (c : Thread nD τ) none E) $$ H5
    iintro H5
    iapply (owns_store 𝒱₀ (c : Thread nD τ) none E h5 off₂) $$ H5
    iintro H5
    iapply (ret_intro c E Q)
    iapply Hk
    isplitl [H4]; · iexact H4
    isplitl [H5]; · iexact H5
    isplitl [H6]; · iexact H6
    iexact H7
  · simp only [if_neg h]
    iintro H Hk
    iapply (ret_intro c E Q)
    iapply Hk
    iexact H

/-- `rest` advances the state over the block, then finishes. -/
theorem wp_rest (i : grid0.Coords) (arg2 : Memref sig .tc .smem S1 .i32) (arg3 : Memref sig .tc .vmem S32x16384 .f32)
    (arg4 : Memref sig .tc .vmem S32x1 .f32) (arg5 : Memref sig .tc .vmem S32x1 .i32)
    (arg6 : Memref sig .tc .vmem S32x128 .f32) (arg7 : Memref sig .tc .vmem S32x128 .i32)
    (h4 : arg4.IsWhole) (h5 : arg5.IsWhole) (h6 : arg6.IsWhole) (h7 : arg7.IsWhole) (q : PosShare TreeShare)
    (X : Vec F S32x16384 .f32) (s s' : St F) (hs : foldGroups X (lin0 i 0#32) (bound i 0#32) 128 (Nat.le_refl _) s = s')
    (U : Vec F S32x1 .f32) (V : IVec S32x1 32) (Q : PUnit → sProp 𝕄) :
    iprop(owns (c : Thread nD τ) arg2 q (fun _ => (0#32 : Elt F .i32)) ∗ owns (c : Thread nD τ) arg3 fullShare X
        ∗ owns (c : Thread nD τ) arg4 fullShare U ∗ owns (c : Thread nD τ) arg5 fullShare V
        ∗ owns (c : Thread nD τ) arg6 fullShare s.1 ∗ owns (c : Thread nD τ) arg7 fullShare s.2)
      ⊢ iprop((iprop(owns (c : Thread nD τ) arg2 q (fun _ => (0#32 : Elt F .i32)) ∗ owns (c : Thread nD τ) arg3 fullShare X
            ∗ owns (c : Thread nD τ) arg4 fullShare (if k0_cond2 i = 1#1 then rowMax s'.1 else U)
            ∗ owns (c : Thread nD τ) arg5 fullShare (if k0_cond2 i = 1#1 then rowArg i s'.1 s'.2 else V)
            ∗ owns (c : Thread nD τ) arg6 fullShare s'.1 ∗ owns (c : Thread nD τ) arg7 fullShare s'.2) -∗ Q ⟨⟩)
          -∗ WP (rest i arg2 arg3 arg4 arg5 arg6 arg7) Q) := by
  subst hs
  unfold rest
  iintro ⟨H2, H3, H4, H5, H6, H7⟩ Hk
  iapply (owns_load 𝒱₀ (c : Thread nD τ) none E) $$ H2
  iintro H2
  iapply (owns_load 𝒱₀ (c : Thread nD τ) none E) $$ H2
  iintro H2
  iapply (owns_load_whole 𝒱₀ (c : Thread nD τ) none E off₂) $$ H6
  iintro H6
  iapply (owns_load_whole 𝒱₀ (c : Thread nD τ) none E off₂) $$ H7
  iintro H7
  iapply (wp_groups c E arg3 X (lin0 i 0#32) (bound i 0#32) _ Q 128 (Nat.le_refl _) s) $$ H3
  iintro H3
  rw [Idealize.ShloMosaic.shapeCast_self, Idealize.ShloMosaic.shapeCast_self]
  iapply (owns_load 𝒱₀ (c : Thread nD τ) none E) $$ H6
  iintro H6
  iapply (owns_store 𝒱₀ (c : Thread nD τ) none E h6 off₂) $$ H6
  iintro H6
  iapply (owns_load 𝒱₀ (c : Thread nD τ) none E) $$ H7
  iintro H7
  iapply (owns_store 𝒱₀ (c : Thread nD τ) none E h7 off₂) $$ H7
  iintro H7
  iapply (wp_finish c E i arg4 arg5 arg6 arg7 h4 h5
    (foldGroups X (lin0 i 0#32) (bound i 0#32) 128 (Nat.le_refl _) s) U V Q) $$ [H4 H5 H6 H7]
  · isplitl [H4]; · iexact H4
    isplitl [H5]; · iexact H5
    isplitl [H6]; · iexact H6
    iexact H7
  iintro ⟨H4, H5, H6, H7⟩
  iapply Hk
  isplitl [H2]; · iexact H2
  isplitl [H3]; · iexact H3
  isplitl [H4]; · iexact H4
  isplitl [H5]; · iexact H5
  isplitl [H6]; · iexact H6
  iexact H7

/-- The body at point `i`: the state advanced by `step`; at the last block of a row of blocks its rows' maxima and
    columns stored. -/
theorem wp_body (i : grid0.Coords) (arg2 : Memref sig .tc .smem S1 .i32) (harg2) (arg3 : Memref sig .tc .vmem S32x16384 .f32) (harg3)
    (arg4 : Memref sig .tc .vmem S32x1 .f32) (h4) (arg5 : Memref sig .tc .vmem S32x1 .i32) (h5)
    (arg6 : Memref sig .tc .vmem S32x128 .f32) (h6) (arg7 : Memref sig .tc .vmem S32x128 .i32) (h7)
    (q : PosShare TreeShare) (X : Vec F S32x16384 .f32) (s : St F)
    (U : Vec F S32x1 .f32) (V : IVec S32x1 32) (Q : PUnit → sProp 𝕄) :
    iprop(owns (c : Thread nD τ) arg2 q (fun _ => (0#32 : Elt F .i32)) ∗ owns (c : Thread nD τ) arg3 fullShare X
        ∗ owns (c : Thread nD τ) arg4 fullShare U ∗ owns (c : Thread nD τ) arg5 fullShare V
        ∗ owns (c : Thread nD τ) arg6 fullShare s.1 ∗ owns (c : Thread nD τ) arg7 fullShare s.2)
      ⊢ iprop((iprop(owns (c : Thread nD τ) arg2 q (fun _ => (0#32 : Elt F .i32)) ∗ owns (c : Thread nD τ) arg3 fullShare X
            ∗ owns (c : Thread nD τ) arg4 fullShare (if k0_cond2 i = 1#1 then rowMax (step i X s).1 else U)
            ∗ owns (c : Thread nD τ) arg5 fullShare (if k0_cond2 i = 1#1 then rowArg i (step i X s).1 (step i X s).2 else V)
            ∗ owns (c : Thread nD τ) arg6 fullShare (step i X s).1 ∗ owns (c : Thread nD τ) arg7 fullShare (step i X s).2) -∗ Q ⟨⟩)
          -∗ WP (cc0__sample_kernel i arg2 harg2 arg3 harg3 arg4 h4 arg5 h5 arg6 h6 arg7 h7) Q) := by
  rw [body_eq]
  iintro ⟨H2, H3, H4, H5, H6, H7⟩ Hk
  iapply (wp_init c E i arg6 arg7 h6 h7 s _ Q) $$ [H6 H7]
  · isplitl [H6]; · iexact H6
    iexact H7
  iintro ⟨H6, H7⟩
  iapply (wp_rest c E i arg2 arg3 arg4 arg5 arg6 arg7 h4 h5 h6 h7 q X _ (step i X s) rfl U V Q) $$ [H2 H3 H4 H5 H6 H7]
  · isplitl [H2]; · iexact H2
    isplitl [H3]; · iexact H3
    isplitl [H4]; · iexact H4
    isplitl [H5]; · iexact H5
    isplitl [H6]; · iexact H6
    iexact H7
  iexact Hk

end Cert.Draw

end
-- ==== Proof.Counters.lean ====
/- The counters of a grid point, as numbers: lane `l` of group `j` in row `r` of point `i` counts the array's positions
   row by row from 42 on, so a position is inside its row exactly where its counter is below the row's bound. -/
module

public import proofs.«01_k».proof.Proof.Body
public import Idealize.ShloMosaic.Lib.Pipeline.Value
public import Idealize.ShloMosaic.Lib.WordCmp

@[expose] public section

noncomputable section

namespace Cert.Draw

open Cert.KernelIdeal Cert.KernelIdeal.Facts₀ Cert.KernelIdeal.Facts
open Idealize.ShloMosaic

/-- The row of the array at row `r` of point `i`. -/
def rowOf (i : grid0.Coords) (r : Fin 32) : Nat := 32 * (i 0).val + r.val
/-- The column of the array at lane `l` of group `j` of point `i`. -/
def colOf (i : grid0.Coords) (j l : Nat) : Nat := 16384 * (i 1).val + 128 * j + l

theorem rowOf_lt (i : grid0.Coords) (r : Fin 32) : rowOf i r < 64 := by
  have h : (i 0).val < 2 := (i 0).isLt
  unfold rowOf; omega

theorem colOf_lt (i : grid0.Coords) (j l : Nat) (hj : j < 128) (hl : l < 128) : colOf i j l < 1015808 := by
  have h : (i 1).val < 62 := (i 1).isLt
  unfold colOf; omega

theorem rowBase_apply (i : grid0.Coords) (x : S32x128.Idx) : rowBase i x = BitVec.ofNat 32 (rowOf i (x 0) * 1000000) := by
  have h : iota .tc S32x128 32 [0] iota_S32x128_d0_w32 x = BitVec.ofNat 32 (x 0).val := iota_single_apply ..
  change (BitVec.ofNat 32 (i 0).val * 32#32 + iota .tc S32x128 32 [0] iota_S32x128_d0_w32 x) * 1000000#32 = _
  rw [h]
  unfold rowOf
  rw [← BitVec.ofNat_mul, ← BitVec.ofNat_add, ← BitVec.ofNat_mul, Nat.mul_comm (i 0).val]

theorem counter_apply (i : grid0.Coords) (j : Nat) (x : S32x128.Idx) :
    group (lin0 i 0#32) j x = BitVec.ofNat 32 (rowOf i (x 0) * 1000000 + colOf i j (x 1).val + 42) := by
  have h : iota .tc S32x128 32 [1] iota_S32x128_d1_w32 x = BitVec.ofNat 32 (x 1).val := iota_single_apply ..
  change rowBase i x + (0#32 + (BitVec.ofNat 32 (i 1).val * 16384#32 + 42#32)) + iota .tc S32x128 32 [1] iota_S32x128_d1_w32 x
    + BitVec.ofNat 32 (128 * j) = _
  rw [h, rowBase_apply]
  unfold colOf
  rw [← BitVec.ofNat_mul, ← BitVec.ofNat_add, ← BitVec.ofNat_add, ← BitVec.ofNat_add, ← BitVec.ofNat_add, ← BitVec.ofNat_add]
  exact congrArg (BitVec.ofNat 32) (by omega)

theorem bound_apply (i : grid0.Coords) (x : S32x128.Idx) :
    bound i 0#32 x = BitVec.ofNat 32 (rowOf i (x 0) * 1000000 + 1000042) := by
  change rowBase i x + (0#32 + 1000042#32) = _
  rw [rowBase_apply]
  rw [← BitVec.ofNat_add, ← BitVec.ofNat_add, Nat.zero_add]

/-- A counter is below its row's bound exactly where its column is in the array. -/
theorem inside_iff (i : grid0.Coords) (j : Nat) (hj : j < 128) (x : S32x128.Idx) :
    cmpi .slt (group (lin0 i 0#32) j) (bound i 0#32) x = BitVec.ofBool (decide (colOf i j (x 1).val < 1000000)) := by
  have hr := rowOf_lt i (x 0)
  have hc := colOf_lt i j (x 1).val hj (x 1).isLt
  unfold cmpi
  rw [counter_apply, bound_apply]
  generalize rowOf i (x 0) = R at hr ⊢
  generalize colOf i j (x 1).val = C at hc ⊢
  rw [WordCmp.cmpi_slt_ofNat (by omega) (by omega)]
  congr 2
  exact propext ⟨fun h => by omega, fun h => by omega⟩

end Cert.Draw

end
-- ==== Proof.Filler.lean ====
/- The last column block reaches past the array; what its staging buffer holds there does not matter, because every
   position past the array's end is masked. -/
module

public import proofs.«01_k».proof.Proof.Triple
public import proofs.«01_k».proof.Proof.Counters

@[expose] public section

noncomputable section

namespace Cert.Draw

open Cert.KernelIdeal Cert.KernelIdeal.Facts₀ Cert.KernelIdeal.Facts
open Idealize.ShloMosaic

variable {F : FTy → Type} [FloatOps F]

/-- The masked value of lane group `j` at a position, from its logit there. -/
theorem value_apply (i : grid0.Coords) (j : Nat) (hj : j < 128) (v : Vec F S32x128 .f32) (x : S32x128.Idx) :
    value (bound i 0#32) (group (lin0 i 0#32) j) v x
      = if colOf i j (x 1).val < 1000000 then
          FloatOps.subf (v x) (log (subf (broadcast S32x128 (Scalar.ofBits .f32 0x00000000#32)) (log (unif (F := F) (group (lin0 i 0#32) j)))) x)
        else Scalar.ofBits .f32 0xFF800000#32 := by
  unfold value select
  rw [inside_iff i j hj x]
  by_cases h : colOf i j (x 1).val < 1000000
  · rw [if_pos h, decide_eq_true h]; rfl
  · rw [if_neg h, decide_eq_false h]; rfl

/-- Two contents of the block's buffer that agree inside the array have one masked value. -/
theorem value_congr (i : grid0.Coords) {X X' : Vec F S32x16384 .f32}
    (h : ∀ p : S32x16384.Idx, 16384 * (i 1).val + (p 1).val < 1000000 → X p = X' p) (j : Nat) (hj : j < 128) :
    value (bound i 0#32) (group (lin0 i 0#32) j) (lanes X j hj) = value (bound i 0#32) (group (lin0 i 0#32) j) (lanes X' j hj) := by
  funext x
  rw [value_apply i j hj, value_apply i j hj]
  by_cases hc : colOf i j (x 1).val < 1000000
  · rw [if_pos hc, if_pos hc]
    have e : lanes X j hj x = lanes X' j hj x := by
      refine h _ ?_
      change 16384 * (i 1).val + (128 * j + 1 * (x 1).val) < 1000000
      unfold colOf at hc; omega
    rw [e]
  · rw [if_neg hc, if_neg hc]

theorem foldGroups_congr (i : grid0.Coords) {X X' : Vec F S32x16384 .f32}
    (h : ∀ p : S32x16384.Idx, 16384 * (i 1).val + (p 1).val < 1000000 → X p = X' p) :
    ∀ (k : Nat) (hk : k ≤ 128) (s : St F),
      foldGroups X (lin0 i 0#32) (bound i 0#32) k hk s = foldGroups X' (lin0 i 0#32) (bound i 0#32) k hk s
  | 0, _, _ => rfl
  | k + 1, hk, s => by
    unfold foldGroups newMax newArg
    rw [value_congr i h (127 - k) (by omega)]
    exact foldGroups_congr i h k (by omega) _

/-- So a point's step depends on the block inside the array only. -/
theorem step_congr (i : grid0.Coords) {X X' : Vec F S32x16384 .f32}
    (h : ∀ p : S32x16384.Idx, 16384 * (i 1).val + (p 1).val < 1000000 → X p = X' p) (s : St F) : step i X s = step i X' s :=
  foldGroups_congr i h 128 (Nat.le_refl _) _

end Cert.Draw

end
-- ==== Proof.Run.lean ====
/- The kernel's run: what every buffer holds at the end, from any memory, at any float values. -/
module

public import proofs.«01_k».proof.Proof.Filler
public import proofs.«01_k».proof.Proof.Gen.KernelIdeal.Launch
public import Idealize.ShloMosaic.Lib.Pipeline.FrameSuffix
public import Idealize.ShloMosaic.Lib.Pipeline.TableIdle

@[expose] public section

noncomputable section

namespace Cert.Draw

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offset table's contents: one zero word. -/
def offs : pre0.Contents (Elt F) := fun
  | ⟨0, _⟩ => fun _ => (0#32 : BitVec 32)
  | ⟨_ + 1, h⟩ => absurd h (by simp)

/-- The pipeline runs at it. -/
abbrev adm : (p : Fin 1) → (pcfgs (F := F) p).Adm := fun _ => ⟨offs, trivial⟩

/-- The pipeline at that table. -/
abbrev pl : Cfg sig Λ₀ := Pipeline.pin (pcfgs (F := F)) adm 0

/-- The buffers when the region is entered. -/
def V₀ (c : Dev nD) : Valuation τ sig (Elt F) := fun b => StableHlo.after [hostOps0 (F := F)].flatten (fun b => m (c, b)) b

theorem V₀_arg0 (c : Dev nD) : V₀ m c (Proc.devRef .tc main_arg0) = m ((c : Thread nD τ).loc main_arg0) := by
  refine StableHlo.after_of_forall_not_mem _ _ fun op hop => ?_
  simp only [List.flatten_cons, List.flatten_nil, List.append_nil, List.mem_cons, List.mem_nil_iff, or_false] at hop
  subst hop
  simp only [StableHlo.nullary_writes, Finset.mem_singleton]
  exact StableHlo.devRef_ne_of_ne (by decide)

theorem V₀_c (c : Dev nD) : V₀ m c (Proc.devRef .tc main_c) = (fun _ => (0#32 : BitVec 32)) := rfl

/-- The logits of point `t`'s block that are inside the array. -/
def blk (c : Dev nD) (t : Fin grid0.N) : (((pl (F := F)).win 0).xblock (grid0.coords t)).Idx → Elt F .f32 :=
  (((pl (F := F)).win 0).blk t).view.read (Elt F) (V₀ m c (Proc.devRef .tc main_arg0))

/-- The block's staging buffer with `d` past the array's end. -/
def blkAt (c : Dev nD) (t : Fin grid0.N) (d : S32x16384.Idx → Elt F .f32) : Vec F S32x16384 .f32 :=
  ((pl (F := F)).win 0).fill (grid0.coords t) d (blk m c t)

/-- The state after the first `n` points. -/
def stAt (c : Dev nD) : Nat → St F
  | 0 => empty
  | n + 1 => if h : n < grid0.N then
      step (grid0.coords ⟨n, h⟩) (blkAt m c ⟨n, h⟩ fun _ => Scalar.ofBits .f32 0#32) (stAt c n) else stAt c n

/-- The invariant before point `n`: the state in the scratch (any at the start), the table, the random register. -/
def inv (c : Dev nD) (n : Nat) : sProp 𝕄 :=
  iprop((∃ s : St F, ⌜n ≠ 0 → s = stAt m c n⌝ ∗ owns (c : Thread nD τ) (Memref.whole cc0_scratch0) fullShare s.1
        ∗ owns (c : Thread nD τ) (Memref.whole cc0_scratch1) fullShare s.2)
    ∗ owns (c : Thread nD τ) (Memref.whole main_c) fullShare.right (fun _ => (0#32 : Elt F .i32))
    ∗ ∃ r, prngReg c r)

/-- The proof data: the arrays at entry, the staging buffers after each point, the invariant. -/
def dats (p : Fin 1) (c : Dev nD) : Dat τ (Elt F) Unit ℕ (UR sig nD τ) ℕ (Pipeline.pin (pcfgs (F := F)) adm p) c where
  A w := V₀ m c (Proc.devRef .tc (Pipeline.arrRef spec0 w))
  after w t := match w with
    | ⟨0, _⟩ => blkAt m c t fun _ => Scalar.ofBits .f32 0#32
    | ⟨1, _⟩ => rowMax (stAt m c (t.val + 1)).1
    | ⟨2, _⟩ => rowArg (grid0.coords t) (stAt m c (t.val + 1)).1 (stAt m c (t.val + 1)).2
  Φ t := inv m c t.val
  q _ := fullShare
  owed _ := 0

/-- Over all points: a block of logits is fetched at each. -/
theorem fetches : ((List.finRange grid0.N).all fun t => ((pl (F := F)).win 0).fetchF t) = true := by sl_kernel_rfl

/-- Over all points: each result's block is written back at the last column block only. -/
theorem flushes : ((List.finRange grid0.N).all fun t =>
    ((pl (F := F)).win 1).flushF t == decide (k0_cond2 (grid0.coords t) = 1#1)
      && ((pl (F := F)).win 2).flushF t == decide (k0_cond2 (grid0.coords t) = 1#1)) = true := by sl_kernel_rfl

theorem fetch_0 (t : Fin (pl (F := F)).N) : ((pl (F := F)).win 0).fetch t = true := by
  rw [Window.fetch_eq_fetchF]
  exact List.all_eq_true.mp fetches t (List.mem_finRange _)

theorem flush_12 (t : Fin (pl (F := F)).N) :
    ((pl (F := F)).win 1).flush t = decide (k0_cond2 (grid0.coords t) = 1#1)
      ∧ ((pl (F := F)).win 2).flush t = decide (k0_cond2 (grid0.coords t) = 1#1) := by
  rw [Window.flush_eq_flushF, Window.flush_eq_flushF]
  simpa using List.all_eq_true.mp (flushes (F := F)) t (List.mem_finRange _)

/-- The first point is the first block of a row of blocks. -/
theorem first_0 : isFirst (grid0.coords ⟨0, by decide⟩) := by decide +kernel

theorem before_0 (c : Dev nD) (t : Fin (pl (F := F)).N) (d) :
    (dats m 0 c).before (0 : Fin 3) t d = blkAt m c t d := by
  unfold Dat.before; exact (if_pos (fetch_0 t)).trans rfl

/-- The block's place is the grid point's coordinates. -/
theorem place (i : grid0.Coords) : cc0_transform_0 i 0 = (i 0).val ∧ cc0_transform_0 i 1 = (i 1).val := by
  have h0 : (i 0).val < 2 := (i 0).isLt
  have h1 : (i 1).val < 62 := (i 1).isLt
  refine ⟨?_, ?_⟩
  · change (BitVec.ofNat 32 (i 0).val).toNat = _
    rw [BitVec.toNat_ofNat, Nat.mod_eq_of_lt (by omega)]
  · change (BitVec.ofNat 32 (i 1).val).toNat = _
    rw [BitVec.toNat_ofNat, Nat.mod_eq_of_lt (by omega)]

/-- An element inside the array is fetched. -/
theorem moved_0 (i : grid0.Coords) (p : S32x16384.Idx) (h : 16384 * (i 1).val + (p 1).val < 1000000) :
    ((pl (F := F)).win 0).moved i p = true := by
  refine (Window.moved_iff ((pl (F := F)).win 0) i p).mpr fun a => ?_
  change (p a).val < (clip0_0 i a).extent (S32x16384.size a)
  have hp := (p a).isLt
  have h0 : (i 0).val < 2 := (i 0).isLt
  obtain ⟨e0, e1⟩ := place i
  unfold clip0_0 Pipeline.Clip.of
  split
  · exact hp
  · rename_i hn
    change (p a).val < S64x1000000.size a - cc0_transform_0 i a * S32x16384.size a
    revert hp hn
    fin_cases a
    · intro hp hn
      refine absurd ?_ hn
      change (cc0_transform_0 i 0 + 1) * 32 ≤ 64
      omega
    · intro hp hn
      change (p 1).val < 1000000 - cc0_transform_0 i 1 * 16384
      omega

/-- A block's element inside the array is the array's. -/
theorem blkAt_apply (c : Dev nD) (t : Fin grid0.N) (d) (p : S32x16384.Idx) (q : S64x1000000.Idx)
    (h0 : (q 0).val = 32 * ((grid0.coords t) 0).val + (p 0).val)
    (h1 : (q 1).val = 16384 * ((grid0.coords t) 1).val + (p 1).val) :
    blkAt m c t d p = V₀ m c (Proc.devRef .tc main_arg0) q := by
  have hq : (q 1).val < 1000000 := (q 1).isLt
  obtain ⟨e0, e1⟩ := place (grid0.coords t)
  unfold blkAt Window.fill
  refine (dif_pos (moved_0 _ p (by omega))).trans ?_
  refine congrArg (V₀ m c (Proc.devRef .tc main_arg0)) (funext fun a => Fin.ext ?_)
  fin_cases a
  · refine Eq.trans ?_ h0.symm
    change cc0_transform_0 (grid0.coords t) 0 * 32 + 1 * (p 0).val = _
    omega
  · refine Eq.trans ?_ h1.symm
    change cc0_transform_0 (grid0.coords t) 1 * 16384 + 1 * (p 1).val = _
    omega

/-- The first point of a row of blocks takes nothing from the state before it. -/
theorem step_first (i : grid0.Coords) (h : isFirst i) (X : Vec F S32x16384 .f32) (s s' : St F) :
    step i X s = step i X s' := by
  unfold step; rw [if_pos h, if_pos h]

/-- One point's step, whatever is past the array's end and, at the start, whatever is in the scratch. -/
theorem step_at (c : Dev nD) (t : Fin grid0.N) (d) (s : St F) (hs : t.val ≠ 0 → s = stAt m c t.val) :
    step (grid0.coords t) (blkAt m c t d) s = stAt m c (t.val + 1) := by
  have hd : ∀ s, step (grid0.coords t) (blkAt m c t d) s
      = step (grid0.coords t) (blkAt m c t fun _ => Scalar.ofBits .f32 0#32) s := fun s => by
    refine step_congr _ (fun p hp => ?_) s
    have h0 : ((grid0.coords t) 0).val < 2 := ((grid0.coords t) 0).isLt
    have hp0 : (p 0).val < 32 := (p 0).isLt
    let q : S64x1000000.Idx := fun
      | ⟨0, _⟩ => ⟨32 * ((grid0.coords t) 0).val + (p 0).val, by change _ < 64; omega⟩
      | ⟨1, _⟩ => ⟨16384 * ((grid0.coords t) 1).val + (p 1).val, hp⟩
    rw [blkAt_apply m c t d p q rfl rfl, blkAt_apply m c t _ p q rfl rfl]
  rw [hd]
  conv_rhs => rw [stAt]
  rw [dif_pos t.isLt]
  by_cases h : t.val = 0
  · have ht : t = ⟨0, by decide⟩ := Fin.ext h
    exact step_first _ (ht ▸ first_0) _ _ _
  · rw [hs h]

theorem inv_at (c : Dev nD) (n : Fin ((pl (F := F)).N + 1)) : (dats m 0 c).Φ n = inv m c n.val := rfl

/-- Each point's body takes the invariant and its buffers to the next. -/
theorem body_obligation (c : Dev nD) :
    BodyObligationLoose (dats m 0 c) (defs₀ (F := F)) Variants.none () Set.univ := fun t => by
  rw [bigSep_W0, bigSep_W0]
  simp only
  rw [show (dats m 0 c).owesAt () t.succ = (dats m 0 c).owesAt () t.castSucc from rfl,
    inv_at, inv_at, Fin.val_castSucc, Fin.val_succ]
  unfold inv
  iintro ⟨⟨⟨%s, %hs, Ha, Hb⟩, Hc, Hr⟩, Ho, ⟨%d0, H0⟩, ⟨%d1, H1⟩, ⟨%d2, H2⟩⟩
  rw [before_0 m c t d0]
  iapply (wp_body (F := F) c Set.univ (grid0.coords t) (Memref.whole main_c) (Memref.isWhole_whole _) _ _ _ _ _ _ _ _ _ _
    fullShare.right (blkAt m c t d0) s _ _ _) $$ [Hc H0 H1 H2 Ha Hb]
  · isplitl [Hc]; · iexact Hc
    isplitl [H0]; · iexact H0
    isplitl [H1]; · iexact H1
    isplitl [H2]; · iexact H2
    isplitl [Ha]; · iexact Ha
    iexact Hb
  iintro ⟨Hc, H0, H1, H2, Ha, Hb⟩
  rw [step_at m c t d0 s hs]
  isplitl [Ha Hb Hc Hr]
  · isplitl [Ha Hb]
    · iexists (stAt m c (t.val + 1))
      isplitr; · ipureintro; exact fun _ => rfl
      isplitl [Ha]; · iexact Ha
      iexact Hb
    isplitl [Hc]; · iexact Hc
    iexact Hr
  isplitl [Ho]; · iexact Ho
  isplitl [H0]
  · iexists d0
    change _ ⊢ owns (c : Thread nD τ) _ fullShare (((pl (F := F)).win 0).fill (grid0.coords t) d0
      (((pl (F := F)).win 0).cut (grid0.coords t) (blkAt m c t fun _ => Scalar.ofBits .f32 0#32)))
    rw [show ((pl (F := F)).win 0).cut (grid0.coords t) (blkAt m c t fun _ => Scalar.ofBits .f32 0#32) = blk m c t from
      ((pl (F := F)).win 0).cut_fill _ _ _]
    exact .rfl
  obtain ⟨f1, f2⟩ := flush_12 (F := F) t
  by_cases h : k0_cond2 (grid0.coords t) = 1#1
  · rw [if_pos h, if_pos h]
    have i1 : idle0 1 (((pcfgs (F := F) 0).gridAt offs).coords t) = false := by
      change (!(k0_cond2 (grid0.coords t) == 1#1)) = false
      rw [h]; rfl
    have i2 : idle0 2 (((pcfgs (F := F) 0).gridAt offs).coords t) = false := i1
    isplitl [H1]
    · rw [i1]
      iexact H1
    · rw [i2]
      iexact H2
  · rw [if_neg h, if_neg h]
    have i1 : idle0 1 (((pcfgs (F := F) 0).gridAt offs).coords t) = true := by
      change (!(k0_cond2 (grid0.coords t) == 1#1)) = true
      simp [h]
    have i2 : idle0 2 (((pcfgs (F := F) 0).gridAt offs).coords t) = true := i1
    isplitl [H1]
    · rw [i1]
      simp only
      split
      · iexists d1
        iexact H1
      · rename_i hf
        exact absurd (hf.symm.trans (f1.trans (decide_eq_false h))) (by decide)
    · rw [i2]
      simp only
      split
      · iexists d2
        iexact H2
      · rename_i hf
        exact absurd (hf.symm.trans (f2.trans (decide_eq_false h))) (by decide)

/-! ## The launch -/

theorem subs : ∀ ops ∈ [hostOps1 (F := F)], ∀ op ∈ ops, op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl
  all_goals
    intro j
    fin_cases j <;> simp only [StableHlo.reshape_bufs, StableHlo.nullary_bufs, StableHlo.unary_bufs,
      StableHlo.binary_bufs, Finset.mem_insert, Finset.mem_singleton, not_or] <;> and_intros <;>
      exact StableHlo.devRef_ne_of_ne (by decide)

theorem freshes : ∀ ops ∈ [hostOps1 (F := F)], ∀ op ∈ ops, op.fresh = ∅ := by
  intro ops hops op hop
  simp only [List.mem_cons, List.mem_nil_iff, or_false] at hops
  subst hops
  simp only [hostOps1, List.mem_cons, List.mem_nil_iff, or_false] at hop
  rcases hop with rfl | rfl | rfl | rfl | rfl <;> rfl

theorem keeps : ∀ ops ∈ [hostOps1 (F := F)], ∀ op ∈ ops, ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl | rfl | rfl
  all_goals
    intro w
    fin_cases w <;> simp only [StableHlo.reshape_writes, StableHlo.nullary_writes, StableHlo.unary_writes,
      StableHlo.binary_writes, Finset.mem_singleton] <;> exact StableHlo.devRef_ne_of_ne (by decide)

/-- A whole buffer owned is its contents held, both ways. -/
theorem whole_of (c : Dev nD) (b : Ref sig .tc) (q : PosShare TreeShare) (f : b.ty.Contents (Elt F)) :
    (((c : Thread nD τ).loc b) ↦{q} f : sProp 𝕄) ⊢ owns (c : Thread nD τ) (Memref.whole b) q f := by
  have h := owns_whole (Ix := Unit) (Name := ℕ) (U := UR sig nD τ) (Lvl := ℕ) (c : Thread nD τ) b q f
  exact (BI.equiv_iff.mpr h).2
theorem of_whole (c : Dev nD) (b : Ref sig .tc) (q : PosShare TreeShare) (f : b.ty.Contents (Elt F)) :
    owns (c : Thread nD τ) (Memref.whole b) q f ⊢ (((c : Thread nD τ).loc b) ↦{q} f : sProp 𝕄) := by
  have h := owns_whole (Ix := Unit) (Name := ℕ) (U := UR sig nD τ) (Lvl := ℕ) (c : Thread nD τ) b q f
  exact (BI.equiv_iff.mpr h).1

/-- The table held is its one word held. -/
theorem table_of (c : Dev nD) : (Pipeline.ΦT pre0 (offs (F := F)) c : sProp 𝕄)
    = (((c : Thread nD τ).loc main_c) ↦{fullShare.right} fun _ => (0#32 : BitVec 32)) := by
  unfold Pipeline.ΦT Pipeline.prefHeld
  rw [show (Finset.univ : Finset (Fin pre0.K)) = {0} from rfl, bigSep_singleton]
  rfl

/-- What the region starts from is the invariant at the start. -/
theorem inv_in (c : Dev nD) :
    (iprop(Pipeline.ΦA spec0 c ∗ Pipeline.ΦT pre0 (offs (F := F)) c) : sProp 𝕄) ⊢ inv m c 0 := by
  unfold Pipeline.ΦA inv
  rw [scopedRest0_eq]
  iintro ⟨⟨⟨⟨%f, Ha⟩, ⟨%g, Hb⟩⟩, Hr⟩, Ht⟩
  isplitl [Ha Hb]
  · iexists ((f, g) : St F)
    isplitr; · ipureintro; exact fun h => absurd rfl h
    isplitl [Ha]
    · iapply (whole_of (F := F) c cc0_scratch0 fullShare f)
      iexact Ha
    · iapply (whole_of (F := F) c cc0_scratch1 fullShare g)
      iexact Hb
  isplitl [Ht]
  · iapply (whole_of (F := F) c main_c fullShare.right (fun _ => (0#32 : BitVec 32)))
    rw [table_of]
    exact .rfl
  · iexact Hr

/-- The invariant at the end gives back what the region started from. -/
theorem inv_out (c : Dev nD) (n : Nat) : inv m c n ⊢ (Pipeline.ΦA spec0 c : sProp 𝕄) := by
  unfold Pipeline.ΦA inv
  rw [scopedRest0_eq]
  iintro ⟨⟨%s, -, Ha, Hb⟩, -, Hr⟩
  isplitl [Ha Hb]
  · isplitl [Ha]
    · iexists s.1
      iapply (of_whole (F := F) c cc0_scratch0 fullShare s.1)
      iexact Ha
    · iexists s.2
      iapply (of_whole (F := F) c cc0_scratch1 fullShare s.2)
      iexact Hb
  · iexact Hr

set_option maxHeartbeats 1000000 in
theorem main_at (𝒱 : Variants) : Pipeline.HMainPK (Ix := Unit) (Name := ℕ) (U := UR sig nD τ) (Lvl := ℕ) (pcfgs (F := F)) 0 defs₀ 𝒱 m main
    (fun c b => V₀ m c (Proc.devRef .tc b)) (fun _ => Pipeline.chain ([hostOps1 (F := F)].map StableHlo.seq)) :=
  Pipeline.hmainP_around pcfgs 0 defs₀ 𝒱 m main [hostOps0] [hostOps1]
    hostOps0_sub (by exact rfl) main_chain

set_option backward.isDefEq.respectTransparency.types false in
/-- The whole run, from any memory: the arrays end as the points leave them, every other buffer as the lines after
    the region leave it, the semaphores at zero. -/
theorem run : θ_run defs (onTc (main (F := F))) (s₀ m ρ) (fun r =>
    Pipeline.FramePost (Pipeline.pin (pcfgs (F := F)) adm) (dats m) 0
      (Pipeline.afterTail (pcfgs (F := F)) adm (dats m) 0 (V₀ m) [hostOps1]) r ∧ r.2.sem = fun _ => 0) :=
  Pipeline.θ_run_frameP_around_track (pcfgs (F := F)) adm (dats m) (0 : Fin 1) launch0 defs₀ Variants.none m ρ main
    (hbody := body_obligation m) (hshare := fun c => (dats m 0 c).share_full fun _ => rfl) (howed := fun _ _ => rfl)
    (V₀ := V₀ m) (opss := [hostOps1]) (hsub := subs) (hfresh := freshes) (hkeep := keeps)
    (hmain := main_at m Variants.none) (hA := fun _ _ => rfl)
    (hpf := fun c k => by fin_cases k; exact V₀_c m c)
    (hin := inv_in m) (hout := fun c => inv_out m c _) (Q' := _) (hQ' := fun _ h => h)

end Cert.Draw

end
-- ==== Proof.Hash.lean ====
/- The random word of a counter, as one function of 32-bit words; the kernel's `bits` is it at each element. -/
module

public import proofs.«01_k».proof.Proof.Body

@[expose] public section

noncomputable section

namespace Cert.Draw

open Cert.KernelIdeal Cert.KernelIdeal.Facts₀ Cert.KernelIdeal.Facts
open Idealize.ShloMosaic

/-- `y` rotated left by `r` bits (`l = 32 - r`). -/
def rot (r l y : BitVec 32) : BitVec 32 := IntOp.ori (IntOp.shli .vector y r) (IntOp.shrui .vector y l)

/-- One mixing round of two words. -/
def mixWord (r l : BitVec 32) (p : BitVec 32 × BitVec 32) : BitVec 32 × BitVec 32 :=
  (p.1 + p.2, IntOp.xori (p.1 + p.2) (rot r l p.2))

/-- The four rounds of an odd group and of an even one. -/
def oddWords (p : BitVec 32 × BitVec 32) := mixWord 6#32 26#32 (mixWord 26#32 6#32 (mixWord 15#32 17#32 (mixWord 13#32 19#32 p)))
def evenWords (p : BitVec 32 × BitVec 32) := mixWord 24#32 8#32 (mixWord 16#32 16#32 (mixWord 29#32 3#32 (mixWord 17#32 15#32 p)))

/-- Words added to both. -/
def addWords (a b : BitVec 32) (p : BitVec 32 × BitVec 32) : BitVec 32 × BitVec 32 := (p.1 + a, p.2 + b)

/-- Threefry-2x32 of the counter `(0, y - 42)` at the key `(0, 42)`, its two words exclusive-ored. -/
def hashWord (y : BitVec 32) : BitVec 32 :=
  let p := addWords 466689008#32 5#32 (oddWords (addWords 42#32 466689012#32 (evenWords (addWords 0#32 45#32 (oddWords
    (addWords 466689008#32 2#32 (evenWords (addWords 42#32 466689009#32 (oddWords (0#32, y))))))))))
  IntOp.xori p.1 p.2

theorem turn_apply (y x : IVec S32x128 32) (r l : BitVec 32) (i : S32x128.Idx) :
    turn y x r l i = IntOp.xori (x i) (rot r l (y i)) := by
  change IntOp.xori (rot r l (y i)) (x i) = _
  exact BitVec.xor_comm _ _

/-- Four rounds at an element. -/
theorem four_apply (x y : IVec S32x128 32) (r₁ l₁ r₂ l₂ r₃ l₃ r₄ l₄ : BitVec 32) (i : S32x128.Idx) :
    (four₀ x y r₁ l₁ r₂ l₂ r₃ l₃ i, four₁ x y r₁ l₁ r₂ l₂ r₃ l₃ r₄ l₄ i)
      = mixWord r₄ l₄ (mixWord r₃ l₃ (mixWord r₂ l₂ (mixWord r₁ l₁ (x i, y i)))) := by
  have ha : ∀ a b : IVec S32x128 32, addi a b i = a i + b i := fun _ _ => rfl
  simp only [four₀, four₁, mixWord, turn_apply, ha]

theorem four₀_apply (x y : IVec S32x128 32) (r₁ l₁ r₂ l₂ r₃ l₃ r₄ l₄ : BitVec 32) (i : S32x128.Idx) :
    four₀ x y r₁ l₁ r₂ l₂ r₃ l₃ i = (mixWord r₄ l₄ (mixWord r₃ l₃ (mixWord r₂ l₂ (mixWord r₁ l₁ (x i, y i))))).1 :=
  congrArg Prod.fst (four_apply x y r₁ l₁ r₂ l₂ r₃ l₃ r₄ l₄ i)
theorem four₁_apply (x y : IVec S32x128 32) (r₁ l₁ r₂ l₂ r₃ l₃ r₄ l₄ : BitVec 32) (i : S32x128.Idx) :
    four₁ x y r₁ l₁ r₂ l₂ r₃ l₃ r₄ l₄ i = (mixWord r₄ l₄ (mixWord r₃ l₃ (mixWord r₂ l₂ (mixWord r₁ l₁ (x i, y i))))).2 :=
  congrArg Prod.snd (four_apply x y r₁ l₁ r₂ l₂ r₃ l₃ r₄ l₄ i)

/-- The kernel's random words are `hashWord` of its counters. -/
theorem bits_apply (y : IVec S32x128 32) (i : S32x128.Idx) : bits y i = hashWord (y i) := by
  have ha : ∀ a b : IVec S32x128 32, addi a b i = a i + b i := fun _ _ => rfl
  have hx : ∀ a b : IVec S32x128 32, xori a b i = IntOp.xori (a i) (b i) := fun _ _ => rfl
  have hb : ∀ a : BitVec 32, broadcast S32x128 a i = a := fun _ => rfl
  simp only [bits, hashWord, hx, ha, hb, four₀_apply _ _ 17#32 15#32 29#32 3#32 16#32 16#32 24#32 8#32,
    four₁_apply _ _ 17#32 15#32 29#32 3#32 16#32 16#32 24#32 8#32, four₀_apply _ _ 13#32 19#32 15#32 17#32 26#32 6#32 6#32 26#32,
    four₁_apply _ _ 13#32 19#32 15#32 17#32 26#32 6#32 6#32 26#32, addWords, oddWords, evenWords, Prod.mk.eta, BitVec.add_zero]
  simp only [mixWord, turn_apply, ha, BitVec.zero_add]

end Cert.Draw

end
-- ==== Proof.Uniform.lean ====
/- The uniform draw of a random word over the reals, and the Gumbel shift of a logit by it. The word's top 23 bits are
   the fraction of a float of `[1, 2)`, so the draw is a multiple of 2⁻²³ in `[0, 1)`, and clamping it at the least
   normal number changes it at zero only. -/
module

public import Idealize.ShloMosaic.PureOps.Ideal.Laws
public import Idealize.ShloMosaic.Lib.Tactic

@[expose] public section

noncomputable section

namespace Cert.Draw

open Idealize.ShloMosaic

/-- A random word as a float of `[1, 2)`. -/
def fracWord (w : BitVec 32) : BitVec 32 := IntOp.ori (IntOp.shrui .vector w 9#32) 1065353216#32

/-- Its value is `1 + k / 2²³`. -/
theorem fracWord_value (w : BitVec 32) : ∃ k : Nat, k < 2 ^ 23 ∧ Ideal.ofBits .f32 (fracWord w) = ((1 + k / 2 ^ 23 : ℝ) : EReal) := by
  have hw : fracWord w = (w >>> 9) ||| 1065353216#32 := rfl
  have h31 : (fracWord w).extractLsb' (8 + 23) 1 = 0#1 := by
    rw [hw]
    apply BitVec.eq_of_getLsbD_eq
    intro i hi
    interval_cases i
    simp [BitVec.getLsbD_extractLsb']
  have h23 : (fracWord w).extractLsb' 23 8 = 127#8 := by
    rw [hw]
    apply BitVec.eq_of_getLsbD_eq
    intro i hi
    interval_cases i <;> simp [BitVec.getLsbD_extractLsb']
  refine ⟨((fracWord w).extractLsb' 0 23).toNat, BitVec.isLt _, ?_⟩
  unfold Ideal.ofBits Ideal.ieee
  simp only [h31, h23]
  generalize ((fracWord w).extractLsb' 0 23).toNat = k
  rw [if_neg (by decide), if_neg (by decide)]
  refine congrArg Real.toEReal ?_
  norm_num
  ring

/-- The value of a normal word, by its sign, exponent and fraction. -/
theorem normal_value (b : BitVec 32) (g : BitVec 1) (e : BitVec 8) (f : BitVec 23) (hg : b.extractLsb' (8 + 23) 1 = g)
    (he : b.extractLsb' 23 8 = e) (hf : b.extractLsb' 0 23 = f) (h1 : e.toNat ≠ 2 ^ 8 - 1) (h0 : e.toNat ≠ 0) :
    Ideal.ofBits .f32 b
      = (((if (g == 1#1) = true then -1 else 1) * ((2 ^ 23 + f.toNat : Nat) : ℝ) * (2 : ℝ) ^ ((e.toNat : Int) - 127 - 23) : ℝ) : EReal) := by
  subst hg he hf
  unfold Ideal.ofBits Ideal.ieee
  dsimp only
  rw [if_neg h1, if_neg h0]
  norm_num

theorem one_value : Ideal.ofBits .f32 0x3F800000#32 = ((1 : ℝ) : EReal) := by
  refine (normal_value 0x3F800000#32 0#1 127#8 0#23 (by decide) (by decide) (by decide) (by decide) (by decide)).trans (congrArg Real.toEReal ?_)
  norm_num
theorem minusOne_value : Ideal.ofBits .f32 0xBF800000#32 = ((-1 : ℝ) : EReal) := by
  refine (normal_value 0xBF800000#32 1#1 127#8 0#23 (by decide) (by decide) (by decide) (by decide) (by decide)).trans (congrArg Real.toEReal ?_)
  norm_num
theorem tiny_value : Ideal.ofBits .f32 0x00800000#32 = (((2 : ℝ) ^ (-126 : Int) : ℝ) : EReal) := by
  refine (normal_value 0x00800000#32 0#1 1#8 0#23 (by decide) (by decide) (by decide) (by decide) (by decide)).trans (congrArg Real.toEReal ?_)
  norm_num
theorem minusInf_value : Ideal.ofBits .f32 0xFF800000#32 = (⊥ : EReal) := by
  unfold Ideal.ofBits Ideal.ieee
  dsimp only
  rw [if_pos (by decide), if_pos (by decide)]
  rfl

/-- The draw, clamped from below, -/
def clamped (w : BitVec 32) : EReal :=
  max (Ideal.ofBits .f32 (fracWord w) + Ideal.ofBits .f32 0xBF800000#32) (Ideal.ofBits .f32 0x00800000#32)
/-- and with its zero replaced. -/
def replaced (w : BitVec 32) : EReal :=
  if Ideal.ofBits .f32 (fracWord w) - Ideal.ofBits .f32 0x3F800000#32 = 0 then Ideal.ofBits .f32 0x00800000#32
  else Ideal.ofBits .f32 (fracWord w) - Ideal.ofBits .f32 0x3F800000#32

/-- The two are one number strictly between 0 and 1. -/
theorem draws (w : BitVec 32) : ∃ u : ℝ, 0 < u ∧ u < 1 ∧ clamped w = u ∧ replaced w = u := by
  obtain ⟨k, hk, hf⟩ := fracWord_value w
  have hs : Ideal.ofBits .f32 (fracWord w) - Ideal.ofBits .f32 0x3F800000#32 = ((k / 2 ^ 23 : ℝ) : EReal) := by
    rw [hf, one_value, ← EReal.coe_sub]
    exact congrArg Real.toEReal (by ring)
  have ha : Ideal.ofBits .f32 (fracWord w) + Ideal.ofBits .f32 0xBF800000#32 = ((k / 2 ^ 23 : ℝ) : EReal) := by
    rw [hf, minusOne_value, ← EReal.coe_add]
    exact congrArg Real.toEReal (by ring)
  have ht : (0 : ℝ) < (2 : ℝ) ^ (-126 : Int) := by positivity
  unfold clamped replaced
  rw [hs, ha, tiny_value]
  by_cases h0 : k = 0
  · subst h0
    refine ⟨(2 : ℝ) ^ (-126 : Int), ht, by norm_num, ?_, ?_⟩
    · refine max_eq_right (EReal.coe_le_coe_iff.mpr ?_)
      simpa using ht.le
    · rw [if_pos (by simp)]
  · have hk1 : (1 : ℝ) ≤ k := by exact_mod_cast Nat.one_le_iff_ne_zero.mpr h0
    have hk2 : (k : ℝ) < 2 ^ 23 := by exact_mod_cast hk
    have hp : (0 : ℝ) < k / 2 ^ 23 := by positivity
    refine ⟨k / 2 ^ 23, hp, by rw [div_lt_one (by positivity)]; exact hk2, ?_, ?_⟩
    · refine max_eq_left (EReal.coe_le_coe_iff.mpr ?_)
      have h1 : (1 : ℝ) / 2 ^ 23 ≤ k / 2 ^ 23 := by gcongr
      refine le_trans ?_ h1
      norm_num
    · rw [if_neg]
      intro h
      exact hp.ne' (EReal.coe_eq_zero.mp h)

/-- A logit shifted by the Gumbel draw of a word. -/
def shift (w : BitVec 32) (x : EReal) : EReal := x - Ideal.log (0 - Ideal.log (clamped w))

/-- The shift is by a real number, -/
theorem shift_real (w : BitVec 32) : ∃ s : ℝ, (∀ x, shift w x = x - s)
    ∧ ∀ x, -Ideal.log (-Ideal.log (replaced w)) + x = x - s := by
  obtain ⟨u, h0, h1, hc, hr⟩ := draws w
  have hl : Ideal.log (u : EReal) = (Real.log u : EReal) := if_neg (not_le.mpr h0)
  have hn : Real.log u < 0 := Real.log_neg h0 h1
  have hl' : Ideal.log ((-Real.log u : ℝ) : EReal) = (Real.log (-Real.log u) : EReal) := if_neg (by linarith)
  refine ⟨Real.log (-Real.log u), fun x => ?_, fun x => ?_⟩
  · unfold shift
    rw [hc, hl, zero_sub, ← EReal.coe_neg, hl']
  · rw [hr, hl, ← EReal.coe_neg, hl', sub_eq_add_neg, add_comm]

/-- so the other order of the sum gives it too, -/
theorem shift_eq (w : BitVec 32) (x : EReal) : -Ideal.log (-Ideal.log (replaced w)) + x = shift w x := by
  obtain ⟨s, h, h'⟩ := shift_real w
  rw [h, h']

/-- and it is above minus infinity where the logit is. -/
theorem shift_above (w : BitVec 32) {x : EReal} (hx : ⊥ < x) : ⊥ < shift w x := by
  obtain ⟨s, h, -⟩ := shift_real w
  rw [h, bot_lt_iff_ne_bot]
  induction x using EReal.rec with
  | bot => exact absurd rfl hx.ne
  | coe r => rw [← EReal.coe_sub]; exact EReal.coe_ne_bot _
  | top => rw [EReal.top_sub_coe]; exact top_ne_bot

end Cert.Draw

end
-- ==== Proof.Lanes.lean ====
/- The kernel's state over the reals: after any number of points each lane holds the first greatest of the shifted
   logits of the columns it has seen, with its counter. -/
module

public import proofs.«01_k».proof.Proof.Run
public import proofs.«01_k».proof.Proof.Hash
public import proofs.«01_k».proof.Proof.Uniform

@[expose] public section

noncomputable section

namespace Cert.Draw

open Cert.KernelIdeal Cert.KernelIdeal.Gen
open Idealize.ShloMosaic Idealize.ShloMosaic.TcCoe

/-- The counter of a place: its number in row-major order, plus the seed's 42. -/
def counterOf (r k : Nat) : BitVec 32 := BitVec.ofNat 32 (r * 1000000 + k + 42)

/-- The index of row `r` and column `k`. -/
def idxOf (r k : Nat) (hr : r < 64) (hk : k < 1000000) : S64x1000000.Idx := fun
  | ⟨0, _⟩ => ⟨r, hr⟩
  | ⟨1, _⟩ => ⟨k, hk⟩

/-- The shifted logit of row `r` and column `k`; minus infinity outside the array. -/
def score (X : S64x1000000.Idx → EReal) (r k : Nat) : EReal :=
  if h : r < 64 ∧ k < 1000000 then shift (hashWord (counterOf r k)) (X (idxOf r k h.1 h.2)) else ⊥

/-! ## One lane -/

/-- The greatest of the first `n` values, met first, with its counter. -/
def pick (val : Nat → EReal) (cnt : Nat → BitVec 32) : Nat → EReal × BitVec 32
  | 0 => (⊥, 2147483647#32)
  | n + 1 => if (pick val cnt n).1 < val n then (val n, cnt n) else pick val cnt n

/-- Lane `l` of row `r` after `n` groups. -/
def lane (X : S64x1000000.Idx → EReal) (r l n : Nat) : EReal × BitVec 32 :=
  pick (fun n => score X r (128 * n + l)) (fun n => counterOf r (128 * n + l)) n

theorem lane_succ (X : S64x1000000.Idx → EReal) (r l n : Nat) :
    lane X r l (n + 1) = if (lane X r l n).1 < score X r (128 * n + l) then (score X r (128 * n + l), counterOf r (128 * n + l))
      else lane X r l n := by
  unfold lane
  rw [pick]

theorem group_counter (i : grid0.Coords) (j : Nat) (x : S32x128.Idx) :
    group (lin0 i 0#32) j x = counterOf (rowOf i (x 0)) (colOf i j (x 1).val) := by
  rw [counter_apply, counterOf]

/-- What `pick` picks. -/
theorem pick_spec (val : Nat → EReal) (cnt : Nat → BitVec 32) : ∀ n : Nat,
    (∀ i < n, val i ≤ (pick val cnt n).1)
      ∧ (pick val cnt n = (⊥, 2147483647#32)
        ∨ ∃ i < n, pick val cnt n = (val i, cnt i) ∧ ⊥ < val i ∧ ∀ i' < i, val i' < val i)
  | 0 => ⟨fun i h => absurd h (Nat.not_lt_zero i), .inl rfl⟩
  | n + 1 => by
    obtain ⟨hle, hor⟩ := pick_spec val cnt n
    unfold pick
    by_cases h : (pick val cnt n).1 < val n
    · rw [if_pos h]
      refine ⟨fun i hi => ?_, .inr ⟨n, Nat.lt_succ_self n, rfl, lt_of_le_of_lt bot_le h, fun i' hi' => lt_of_le_of_lt (hle i' hi') h⟩⟩
      rcases Nat.lt_succ_iff_lt_or_eq.mp hi with hi | rfl
      · exact (hle i hi).trans h.le
      · exact le_rfl
    · rw [if_neg h]
      refine ⟨fun i hi => ?_, ?_⟩
      · rcases Nat.lt_succ_iff_lt_or_eq.mp hi with hi | rfl
        · exact hle i hi
        · exact not_lt.mp h
      · rcases hor with hor | ⟨i, hi, hor⟩
        · exact .inl hor
        · exact .inr ⟨i, Nat.lt_succ_of_lt hi, hor⟩

/-! ## One group -/

/-! The kernel's float operations at an element, over the reals. -/
theorem addf_at (a b : FVec Ideal S32x128 .f32) (x : S32x128.Idx) : addf a b x = (a x + b x : EReal) := rfl
theorem subf_at (a b : FVec Ideal S32x128 .f32) (x : S32x128.Idx) : subf a b x = (a x - b x : EReal) := rfl
theorem max_at (a b : FVec Ideal S32x128 .f32) (x : S32x128.Idx) : maximumf a b x = (max (a x) (b x) : EReal) := rfl
theorem log_at (a : FVec Ideal S32x128 .f32) (x : S32x128.Idx) : log a x = Ideal.log (a x) := rfl
theorem float_at (w : IVec S32x128 32) (x : S32x128.Idx) : bitcastToFloat (F := Ideal) .f32 w x = Ideal.ofBits .f32 (w x) := rfl
theorem const_at (a : BitVec 32) (x : S32x128.Idx) :
    broadcast S32x128 (Scalar.ofBits (F := Ideal) .f32 a) x = Ideal.ofBits .f32 a := rfl
theorem frac_at (w : IVec S32x128 32) (x : S32x128.Idx) :
    ori (shrui w (broadcast S32x128 9#32)) (broadcast S32x128 1065353216#32) x = fracWord (w x) := rfl

theorem unif_apply (y : IVec S32x128 32) (x : S32x128.Idx) : unif (F := Ideal) y x = clamped (hashWord (y x)) := by
  unfold unif clamped
  rw [max_at, addf_at, float_at, const_at, const_at, frac_at, bits_apply]

/-- The Gumbel shift of a logit at an element. -/
theorem shift_apply (y : IVec S32x128 32) (x : S32x128.Idx) (v : Ideal .f32) :
    FloatOps.subf v (log (subf (broadcast S32x128 (Scalar.ofBits .f32 0x00000000#32)) (log (unif (F := Ideal) y))) x)
      = shift (hashWord (y x)) v := by
  rw [log_at, subf_at, log_at, unif_apply, const_at, Ideal.ofBits_zero_f32, shift]
  rfl

/-- A group's logits, by the array. -/
theorem lanes_apply (i : grid0.Coords) (j : Nat) (hj : j < 128) (B : Vec Ideal S32x16384 .f32) (x : S32x128.Idx) (v : EReal)
    (hB : ∀ p : S32x16384.Idx, (p 0).val = (x 0).val → (p 1).val = 128 * j + (x 1).val → B p = v) : lanes B j hj x = v := by
  refine hB _ ?_ ?_
  · change 0 + 1 * (x 0).val = (x 0).val
    omega
  · change 128 * j + 1 * (x 1).val = 128 * j + (x 1).val
    omega

/-- The masked value of a group, at an element, is the shifted logit there. -/
theorem value_score (X : S64x1000000.Idx → EReal) (i : grid0.Coords) (j : Nat) (hj : j < 128) (B : Vec Ideal S32x16384 .f32)
    (hB : ∀ (p : S32x16384.Idx) (q : S64x1000000.Idx), (q 0).val = 32 * (i 0).val + (p 0).val →
      (q 1).val = 16384 * (i 1).val + (p 1).val → B p = X q) (x : S32x128.Idx) :
    value (F := Ideal) (bound i 0#32) (group (lin0 i 0#32) j) (lanes B j hj) x = score X (rowOf i (x 0)) (colOf i j (x 1).val) := by
  rw [value_apply i j hj]
  have hr := rowOf_lt i (x 0)
  unfold score
  by_cases h : colOf i j (x 1).val < 1000000
  · rw [if_pos h, dif_pos ⟨hr, h⟩, shift_apply, group_counter]
    refine congrArg _ (lanes_apply i j hj B x _ fun p h0 h1 => hB _ _ ?_ ?_)
    · change rowOf i (x 0) = _
      unfold rowOf; omega
    · change colOf i j (x 1).val = _
      unfold colOf; omega
  · rw [if_neg h, dif_neg fun h' => h h'.2]
    exact minusInf_value

/-- The running maximum and its counter after a group, at an element. -/
theorem new_apply (b y : IVec S32x128 32) (v m : Vec Ideal S32x128 .f32) (a : IVec S32x128 32) (x : S32x128.Idx) :
    (newMax (F := Ideal) b y v m x, newArg (F := Ideal) b y v m a x)
      = if m x < value (F := Ideal) b y v x then (value (F := Ideal) b y v x, y x) else (m x, a x) := by
  change (Scalar.select (BitVec.ofBool (decide (m x < value (F := Ideal) b y v x))) (value (F := Ideal) b y v x) (m x),
    Scalar.select (BitVec.ofBool (decide (m x < value (F := Ideal) b y v x))) (y x) (a x)) = _
  by_cases h : m x < value (F := Ideal) b y v x
  · rw [if_pos h, decide_eq_true h]; rfl
  · rw [if_neg h, decide_eq_false h]; rfl

/-- The last `k` groups of a block take a lane on to the block's end. -/
theorem foldGroups_lane (X : S64x1000000.Idx → EReal) (i : grid0.Coords) (B : Vec Ideal S32x16384 .f32)
    (hB : ∀ (p : S32x16384.Idx) (q : S64x1000000.Idx), (q 0).val = 32 * (i 0).val + (p 0).val →
      (q 1).val = 16384 * (i 1).val + (p 1).val → B p = X q) (x : S32x128.Idx) (R T : Nat) (hR : rowOf i (x 0) = R)
    (hT : (i 1).val = T) : ∀ (k : Nat) (hk : k ≤ 128) (s : St Ideal),
      (s.1 x, s.2 x) = lane X R (x 1).val (128 * T + (128 - k)) →
      ((foldGroups B (lin0 i 0#32) (bound i 0#32) k hk s).1 x, (foldGroups B (lin0 i 0#32) (bound i 0#32) k hk s).2 x)
        = lane X R (x 1).val (128 * T + 128)
  | 0, _, s, h => h
  | k + 1, hk, s, h => by
    unfold foldGroups
    refine foldGroups_lane X i B hB x R T hR hT k (by omega) _ ?_
    dsimp only
    rw [new_apply]
    have hn : 128 * T + (128 - k) = (128 * T + (128 - (k + 1))) + 1 := by omega
    have hc : colOf i (127 - k) (x 1).val = 128 * (128 * T + (128 - (k + 1))) + (x 1).val := by
      unfold colOf; omega
    rw [value_score X i (127 - k) (by omega) B hB, group_counter, hn, lane_succ, ← h, hc, hR]

/-- The first block of a row of blocks. -/
theorem isFirst_iff (i : grid0.Coords) : isFirst i ↔ (i 1).val = 0 := by
  have h : ∀ n : Fin 62, Scalar.cmpi .ne (Scalar.extui (Scalar.cmpi .eq (BitVec.ofNat 32 n.val) 0#32) : BitVec 32) 0#32 = 1#1 ↔ n.val = 0 := by
    decide +kernel
  exact h (i 1)

theorem empty_lane (X : S64x1000000.Idx → EReal) (r l : Nat) (x : S32x128.Idx) :
    ((empty (F := Ideal)).1 x, (empty (F := Ideal)).2 x) = lane X r l 0 := by
  change (Ideal.ofBits .f32 0xFF800000#32, 2147483647#32) = _
  rw [minusInf_value]
  rfl

/-! ## The points -/

/-- A point's place in the grid. -/
theorem coords_val (t : Fin grid0.N) : (grid0.coords t 0).val = t.val / 62 ∧ (grid0.coords t 1).val = t.val % 62 := by
  have h : ((List.finRange grid0.N).all fun t => decide ((grid0.coords t 0).val = t.val / 62) && decide ((grid0.coords t 1).val = t.val % 62)) = true := by
    decide +kernel
  simpa using List.all_eq_true.mp h t (List.mem_finRange _)

variable (m : (ℓ : Loc nD τ sig) → Buf (Elt Ideal) ℓ)

/-- After point `n` each lane of its row block holds what it picks of the columns up to the block's end. -/
theorem stAt_lane (c : Dev nD) (x : S32x128.Idx) : ∀ (n : Nat) (h : n < grid0.N),
    ((stAt m c (n + 1)).1 x, (stAt m c (n + 1)).2 x)
      = lane (V₀ m c (Proc.devRef .tc main_arg0)) (32 * (n / 62) + (x 0).val) (x 1).val (128 * (n % 62) + 128) := fun n h => by
  obtain ⟨e0, e1⟩ := coords_val ⟨n, h⟩
  have hrow : rowOf (grid0.coords ⟨n, h⟩) (x 0) = 32 * (n / 62) + (x 0).val := by unfold rowOf; rw [e0]
  have key := foldGroups_lane (V₀ m c (Proc.devRef .tc main_arg0)) (grid0.coords ⟨n, h⟩)
    (blkAt m c ⟨n, h⟩ fun _ => (Scalar.ofBits .f32 0#32 : Ideal .f32)) (fun p q h0 h1 => blkAt_apply m c ⟨n, h⟩ _ p q h0 h1) x _ _ hrow e1 128 (Nat.le_refl _)
    (if isFirst (grid0.coords ⟨n, h⟩) then empty else stAt m c n)
  rw [stAt, dif_pos h]
  refine key ?_
  by_cases hf : n % 62 = 0
  · rw [if_pos ((isFirst_iff _).mpr (e1.trans hf)), hf]
    exact empty_lane ..
  · rw [if_neg fun h' => hf (e1.symm.trans ((isFirst_iff _).mp h'))]
    obtain ⟨k, rfl⟩ : ∃ k, n = k + 1 := ⟨n - 1, by omega⟩
    have := stAt_lane c x k (by omega)
    have hd : (k + 1) / 62 = k / 62 := by omega
    have hm : 128 * (k % 62) + 128 = 128 * ((k + 1) % 62) + (128 - 128) := by omega
    rw [this, hd, hm]

end Cert.Draw

end
-- ==== Proof.Rows.lean ====
/- The end of a row: from lanes that hold their first greatest scores, the row's maximum and the least counter that
   holds it give the row's first best column. -/
module

public import proofs.«01_k».proof.Proof.Lanes
public import Idealize.ShloMosaic.Lib.SortNet.Extract
public import Idealize.ShloMosaic.Lib.Pipeline.Value

@[expose] public section

noncomputable section

namespace Cert.Draw

open Cert.KernelIdeal Cert.KernelIdeal.Gen
open Idealize.ShloMosaic Idealize.ShloMosaic.TcCoe Idealize.ShloMosaic.SortNet

/-- Column `k` is the first of row `r`'s greatest scores, and that is not minus infinity. -/
structure Best (X : S64x1000000.Idx → EReal) (r k : Nat) : Prop where
  row : r < 64
  col : k < 1000000
  above : ⊥ < score X r k
  most : ∀ k', score X r k' ≤ score X r k
  first : ∀ k' < k, score X r k' < score X r k

/-- A counter is its number, read as a signed word. -/
theorem counterOf_toInt {r k : Nat} (hr : r < 64) (hk : k < 1000000) : (counterOf r k).toInt = (r * 1000000 + k + 42 : Nat) := by
  unfold counterOf
  rw [BitVec.toInt_ofNat']
  exact Int.bmod_eq_of_le (by omega) (by omega)

/-- A counter less its row's first place. -/
theorem counterOf_sub (r k : Nat) : counterOf r k - BitVec.ofNat 32 (r * 1000000) = BitVec.ofNat 32 (k + 42) := by
  have hc : r * 1000000 + k + 42 = (k + 42) + r * 1000000 := by omega
  unfold counterOf
  rw [hc, BitVec.ofNat_add, BitVec.add_sub_cancel]

variable {X : S64x1000000.Idx → EReal} {r k : Nat}

theorem score_col {k' : Nat} (h : ⊥ < score X r k') : k' < 1000000 := by
  by_contra hk
  unfold score at h
  rw [dif_neg fun h' => hk h'.2] at h
  exact lt_irrefl _ h

/-- A full lane's maximum is at most the best score, -/
theorem lane_le (b : Best X r k) (l n : Nat) : (lane X r l n).1 ≤ score X r k := by
  obtain ⟨-, h | ⟨i, -, h, -⟩⟩ := pick_spec (fun n => score X r (128 * n + l)) (fun n => counterOf r (128 * n + l)) n
  · unfold lane; rw [h]; exact bot_le
  · unfold lane; rw [h]; exact b.most _

/-- a lane that reaches it holds the counter of a column not before the best, -/
theorem lane_reach (b : Best X r k) (l n : Nat) (h : (lane X r l n).1 = score X r k) :
    ∃ k', k ≤ k' ∧ k' < 1000000 ∧ (lane X r l n).2 = counterOf r k' := by
  obtain ⟨-, h' | ⟨i, -, h', hb, -⟩⟩ := pick_spec (fun n => score X r (128 * n + l)) (fun n => counterOf r (128 * n + l)) n
  · unfold lane at h; rw [h'] at h
    exact absurd h b.above.ne
  · unfold lane at h ⊢; rw [h'] at h ⊢
    refine ⟨128 * i + l, ?_, score_col hb, rfl⟩
    by_contra hlt
    exact (b.first _ (not_le.mp hlt)).ne h

/-- and the best column's lane holds its score and its counter. -/
theorem lane_best (b : Best X r k) (n : Nat) (hn : k < 128 * n) : lane X r (k % 128) n = (score X r k, counterOf r k) := by
  have hk : 128 * (k / 128) + k % 128 = k := by omega
  obtain ⟨hle, h⟩ := pick_spec (fun n => score X r (128 * n + k % 128)) (fun n => counterOf r (128 * n + k % 128)) n
  have hM := hle (k / 128) (by omega)
  rw [hk] at hM
  unfold lane
  rcases h with h | ⟨i, hi, h, hb, hf⟩
  · rw [h] at hM
    exact absurd (le_bot_iff.mp hM) b.above.ne'
  · rw [h] at hM ⊢
    have he : score X r (128 * i + k % 128) = score X r k := le_antisymm (b.most _) hM
    have hik : i = k / 128 := by
      rcases Nat.lt_trichotomy i (k / 128) with hlt | heq | hgt
      · exact absurd he (b.first _ (by omega)).ne
      · exact heq
      · have := hf (k / 128) hgt
        rw [hk, he] at this
        exact absurd this (lt_irrefl _)
    rw [hik, hk]

/-! ## Reductions over the lanes -/

/-- The element at row `p` and lane `l`. -/
def laneIdx (p : Fin 32) (l : Fin 128) : S32x128.Idx := fun
  | ⟨0, _⟩ => p
  | ⟨1, _⟩ => l

theorem lift_lane (h : S32x128.Reduces [1] S32) (j : S32.Idx) (l : Fin 128) : h.lift j l = laneIdx (j 0) l := by
  funext a
  fin_cases a <;> rfl

/-- A maximum from minus infinity that is reached. -/
theorem fold_max_eq (f : Fin 128 → EReal) (v : EReal) (h : ∀ l, f l ≤ v) (l : Fin 128) (hl : f l = v) :
    (Finset.univ : Finset (Fin 128)).fold max ⊥ f = v :=
  le_antisymm ((Finset.fold_max_le _).mpr ⟨bot_le, fun l _ => h l⟩) ((Finset.le_fold_max _).mpr (.inr ⟨l, Finset.mem_univ l, hl.ge⟩))

/-- A signed minimum is at most each of its words, -/
theorem fold_min_le (s : Finset (Fin 128)) (acc : BitVec 32) (f : Fin 128 → BitVec 32) :
    ∀ l ∈ s, (s.fold IntOp.minsi acc f).toInt ≤ (f l).toInt := by
  induction s using Finset.induction_on with
  | empty => intro l hl; exact absurd hl (Finset.notMem_empty l)
  | insert a s ha ih =>
    intro l hl
    rw [Finset.fold_insert ha, toInt_minsi]
    rcases Finset.mem_insert.mp hl with rfl | hl
    · exact min_le_left _ _
    · exact (min_le_right _ _).trans (ih l hl)

/-- and at least whatever each of them and its start is. -/
theorem le_fold_min (s : Finset (Fin 128)) (acc v : BitVec 32) (f : Fin 128 → BitVec 32) (hacc : v.toInt ≤ acc.toInt)
    (h : ∀ l, v.toInt ≤ (f l).toInt) : v.toInt ≤ (s.fold IntOp.minsi acc f).toInt := by
  induction s using Finset.induction_on with
  | empty => rw [Finset.fold_empty]; exact hacc
  | insert a s ha ih => rw [Finset.fold_insert ha, toInt_minsi]; exact le_min (h a) ih

theorem fold_min_eq (acc v : BitVec 32) (f : Fin 128 → BitVec 32) (hacc : v.toInt ≤ acc.toInt)
    (h : ∀ l, v.toInt ≤ (f l).toInt) (l : Fin 128) (hl : f l = v) :
    (Finset.univ : Finset (Fin 128)).fold IntOp.minsi acc f = v :=
  BitVec.eq_of_toInt_eq (le_antisymm (hl ▸ fold_min_le Finset.univ acc f l (Finset.mem_univ l)) (le_fold_min _ acc v f hacc h))

/-- The one-coordinate index. -/
def rowIdx (p : Fin 32) : S32.Idx := fun
  | ⟨0, _⟩ => p

theorem cast_row {α : Type} (v : S32.Idx → α) (y : S32x1.Idx) : shapeCast S32x1 v shapeCasts_S32_S32x1 y = v (rowIdx (y 0)) :=
  shapeCast_apply v shapeCasts_S32_S32x1 y _ (by
    have hy : (y 1).val < 1 := (y 1).isLt
    rw [Shape.rowMajor_val_two, Shape.rowMajor_val_one]
    have e : (y 0).val = (y 0).val * 1 + (y 1).val := by omega
    exact e)

/-- A row's maximum over the lanes. -/
theorem rowMax_apply (m : FVec Ideal S32x128 .f32) (y : S32x1.Idx) (v : EReal) (h : ∀ l, m (laneIdx (y 0) l) ≤ v) (l : Fin 128)
    (hl : m (laneIdx (y 0) l) = v) : rowMax (F := Ideal) m y = v := by
  unfold rowMax
  rw [cast_row]
  refine (Ideal.multiReduction_maximumf_single m _ _ _ _ _).trans ?_
  have hf : m ∘ reduces_S32x128_S32.lift (rowIdx (y 0)) = fun l => m (laneIdx (y 0) l) :=
    funext fun l => congrArg m (lift_lane _ _ l)
  rw [hf]
  refine Eq.trans ?_ (fold_max_eq (fun l => m (laneIdx (y 0) l)) v h l hl)
  exact congrArg (fun a => Finset.univ.fold max a fun l : Fin 128 => m (laneIdx (y 0) l)) minusInf_value

theorem cast_max (m : FVec Ideal S32x128 .f32) (p : Fin 32) (l : Fin 128) :
    broadcastTo S32x128 (rowMax (F := Ideal) m) broadcasts_S32x1_S32x128 (laneIdx p l)
      = rowMax (F := Ideal) m (fun a => match a with | ⟨0, _⟩ => p | ⟨1, _⟩ => ⟨0, Nat.one_pos⟩) :=
  broadcastTo_apply _ broadcasts_S32x1_S32x128 _ _ fun b => match b with
    | ⟨0, _⟩ => rfl
    | ⟨1, _⟩ => rfl

/-- The counters a row's minimum runs over: a lane's own where it holds the row's maximum, else the largest word. -/
def heldAt (m : FVec Ideal S32x128 .f32) (a : IVec S32x128 32) : IVec S32x128 32 :=
  select (cmpf .oeq m (broadcastTo S32x128 (rowMax (F := Ideal) m) broadcasts_S32x1_S32x128)) a (broadcast S32x128 2147483647#32)

theorem heldAt_apply (m : FVec Ideal S32x128 .f32) (a : IVec S32x128 32) (p : Fin 32) (l : Fin 128) (v : EReal)
    (hv : rowMax (F := Ideal) m (fun a => match a with | ⟨0, _⟩ => p | ⟨1, _⟩ => ⟨0, Nat.one_pos⟩) = v) :
    heldAt m a (laneIdx p l) = if m (laneIdx p l) = v then a (laneIdx p l) else 2147483647#32 := by
  have e : heldAt m a (laneIdx p l)
      = if BitVec.ofBool (decide (m (laneIdx p l)
          = broadcastTo S32x128 (rowMax (F := Ideal) m) broadcasts_S32x1_S32x128 (laneIdx p l))) = 1#1
        then a (laneIdx p l) else 2147483647#32 := rfl
  rw [e, cast_max, hv]
  by_cases h : m (laneIdx p l) = v
  · rw [if_pos h, decide_eq_true h]; rfl
  · rw [if_neg h, decide_eq_false h]; rfl

/-- Over the lanes of a row with a best column `k`, what the row's last store holds is `k + 42`. -/
theorem rowArg_best (i : grid0.Coords) (m : FVec Ideal S32x128 .f32) (a : IVec S32x128 32) (y : S32x1.Idx)
    (b : Best X (rowOf i (y 0)) k)
    (hl : ∀ l : Fin 128, (m (laneIdx (y 0) l), a (laneIdx (y 0) l)) = lane X (rowOf i (y 0)) l.val 7936) :
    rowArg (F := Ideal) i m a y = BitVec.ofNat 32 (k + 42) := by
  have hcol := b.col
  have hm : ∀ l : Fin 128, m (laneIdx (y 0) l) = (lane X (rowOf i (y 0)) l.val 7936).1 := fun l => congrArg Prod.fst (hl l)
  have ha : ∀ l : Fin 128, a (laneIdx (y 0) l) = (lane X (rowOf i (y 0)) l.val 7936).2 := fun l => congrArg Prod.snd (hl l)
  have hbest := lane_best b 7936 (by omega)
  let l₀ : Fin 128 := ⟨k % 128, Nat.mod_lt _ (by omega)⟩
  have hmax : rowMax (F := Ideal) m (fun a => match a with | ⟨0, _⟩ => y 0 | ⟨1, _⟩ => ⟨0, Nat.one_pos⟩)
      = score X (rowOf i (y 0)) k :=
    rowMax_apply m _ _ (fun l => by rw [hm]; exact lane_le b _ _) l₀ (by rw [hm]; exact congrArg Prod.fst hbest)
  have hmin : (Finset.univ : Finset (Fin 128)).fold IntOp.minsi 2147483647#32 (fun l => heldAt m a (laneIdx (y 0) l))
      = counterOf (rowOf i (y 0)) k := by
    have hk : (counterOf (rowOf i (y 0)) k).toInt ≤ (2147483647#32).toInt := by
      have hr := b.row
      have e : (2147483647#32).toInt = 2147483647 := by decide
      rw [counterOf_toInt b.row b.col, e]
      omega
    refine fold_min_eq _ _ _ hk (fun l => ?_) l₀ ?_
    · rw [heldAt_apply m a (y 0) l _ hmax]
      by_cases h : m (laneIdx (y 0) l) = score X (rowOf i (y 0)) k
      · rw [if_pos h, ha]
        obtain ⟨k', hkk, hk', e⟩ := lane_reach b l.val 7936 (by rw [← hm]; exact h)
        rw [e, counterOf_toInt b.row b.col, counterOf_toInt b.row hk']
        omega
      · rw [if_neg h]; exact hk
    · rw [heldAt_apply m a (y 0) l₀ _ hmax, if_pos (by rw [hm]; exact congrArg Prod.fst hbest), ha]
      exact congrArg Prod.snd hbest
  have e : rowArg (F := Ideal) i m a y
      = shapeCast S32x1 (multiReductionI .minsi [1] S32 (heldAt m a) 2147483647#32 reduces_S32x128_S32 rfl) shapeCasts_S32_S32x1 y
        - extractStridedSlice S32x1 ![0, 0] (rowBase i) slices_S32x128_o0_0_S32x1 y := rfl
  rw [e, cast_row, extractStridedSlice_apply ![0, 0] (rowBase i) slices_S32x128_o0_0_S32x1 y (laneIdx (y 0) ⟨0, by omega⟩) (fun a => by
      have hy : (y 1).val < 1 := (y 1).isLt
      fin_cases a
      · exact (Nat.zero_add _).symm
      · have : 0 = 0 + (y 1).val := by omega
        exact this), rowBase_apply]
  refine (congrArg (· - _) ((multiReductionI_eq_fold _ _ _ _ _ _).trans (reduces_S32x128_S32.fold_filter_drop_single _ _ _ _))).trans ?_
  have hf : heldAt m a ∘ reduces_S32x128_S32.lift (rowIdx (y 0)) = fun l => heldAt m a (laneIdx (y 0) l) :=
    funext fun l => congrArg (heldAt m a) (lift_lane _ _ l)
  rw [hf]
  exact (congrArg (· - BitVec.ofNat 32 (rowOf i (y 0) * 1000000)) hmin).trans (counterOf_sub _ _)

end Cert.Draw

end
-- ==== Proof.Frames.lean ====
/- What the kernel's run leaves in its argument and in its result. -/
module

public import proofs.«01_k».proof.Proof.Run

@[expose] public section

noncomputable section

namespace Cert.Draw

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- What the points leave in the array of winning counters. -/
def counters (c : Dev nD) : IVec S64x1 32 := (dats m 0 c).arrAt (2 : Fin 3) (pl (F := F)).N

/-- The result of those: one counter a row, without the seed's 42. -/
def drawn (v : IVec S64x1 32) : IVec S64 32 :=
  subi (shapeCast S64 v shapeCasts_S64x1_S64) (broadcastInDim S64 ![] bcast_S_S64 (constantI S_ 32 42#32))

/-- The lines after the region, from any contents. -/
theorem tail_of (W : Valuation τ sig (Elt F)) :
    StableHlo.after [hostOps1 (F := F)].flatten W (Proc.devRef .tc main_v4) = drawn (W (Proc.devRef .tc main_v0_1)) := by
  sl_kernel_rfl

/-- The lines after the region leave the counters' result in `main_v4`. -/
theorem tail_v4 (c : Dev nD) :
    Pipeline.afterTail (pcfgs (F := F)) adm (dats m) 0 (V₀ m) [hostOps1] c main_v4 = drawn (counters m c) := by
  unfold Pipeline.afterTail
  rw [tail_of]
  exact congrArg drawn (Pipeline.withArrays_arr spec0 winFacts0.arr_inj c (V₀ m c)
    (fun w => (dats m 0 c).arrAt w (pl (F := F)).N) (2 : Fin 3))

/-- The run ends with the argument as it was, the counters' result in `main_v4` and the semaphores at zero. -/
theorem run_result : θ_run defs (onTc (main (F := F))) (s₀ m ρ) (fun r =>
    (∀ c : Dev nD, r.2.mem ((c : Thread nD τ).loc main_v4) = drawn (counters m c)
      ∧ r.2.mem ((c : Thread nD τ).loc main_arg0) = m ((c : Thread nD τ).loc main_arg0))
    ∧ r.2.sem = fun _ => 0) := by
  refine (θ_run defs _ _).mono (fun r h => ?_) (run m ρ)
  refine ⟨fun c => ⟨?_, ?_⟩, h.2⟩
  · exact ((h.1 c).2 main_v4 (show main_v4 ∈ Pipeline.restRefs sig spec0 by decide)).trans (tail_v4 m c)
  · refine ((h.1 c).1 (0 : Fin 3)).trans ?_
    refine ((dats m 0 c).arrAt_in (w := (0 : Fin 3)) rfl _).trans (V₀_arg0 m c)

/-- The argument is kept and the semaphores end at zero. -/
theorem frame : θ_run defs (onTc (main (F := F))) ⟨m, fun _ => 0, ρ⟩ (fun r =>
    (∀ c : Dev nD, r.2.mem ((c : Thread nD τ).loc main_arg0) = m ((c : Thread nD τ).loc main_arg0))
    ∧ r.2.sem = fun _ => 0) :=
  (θ_run defs _ _).mono (fun _ h => ⟨fun c => (h.1 c).2, h.2⟩) (run_result m ρ)

end Cert.Draw

end
-- ==== Proof.Drawn.lean ====
/- What the kernel returns: each row's best column. -/
module

public import proofs.«01_k».proof.Proof.Rows
public import proofs.«01_k».proof.Proof.Frames
public import Idealize.ShloMosaic.Lib.Pipeline.ValueKit

@[expose] public section

noncomputable section

namespace Cert.Draw

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ)

/-- The blocks of counters written back cover the array. -/
theorem covers_2 : ((pl (F := Ideal)).win 2).Covers := by decide +kernel

/-- The last points of the two rows of blocks. -/
theorem last_val (t : Fin grid0.N) (h : k0_cond2 (grid0.coords t) = 1#1) : ((grid0.coords t) 1).val = 61 := by
  have h1 : ((grid0.coords t) 1).val < 62 := ((grid0.coords t) 1).isLt
  revert h t
  decide +kernel

/-- The row of an element of a block of counters. -/
theorem place_2 (t : Fin grid0.N) (y : (((pl (F := Ideal)).win 2).xblock ((pl (F := Ideal)).grid.coords t)).Idx) :
    ((((pl (F := Ideal)).win 2).blk t).view.emb y 0).val = cc0_transform_2 (grid0.coords t) 0 * 32 + 1 * (y 0).val := rfl

theorem transform_2 (i : grid0.Coords) : cc0_transform_2 i 0 = (i 0).val := by
  have h0 : (i 0).val < 2 := (i 0).isLt
  change (BitVec.ofNat 32 (i 0).val).toNat = _
  rw [BitVec.toNat_ofNat, Nat.mod_eq_of_lt (by omega)]

/-- The element of the array of counters in row `r`. -/
def rowOut (r : Fin 64) : S64x1.Idx := fun
  | ⟨0, _⟩ => r
  | ⟨1, _⟩ => ⟨0, Nat.one_pos⟩

/-- A block's last store at a row with a best column. -/
theorem stored (c : Dev nD) (t : Fin grid0.N) (hl : k0_cond2 (grid0.coords t) = 1#1) (y : S32x1.Idx) (k : Nat)
    (b : Best (V₀ m c (Proc.devRef .tc main_arg0)) (rowOf (grid0.coords t) (y 0)) k) :
    rowArg (F := Ideal) (grid0.coords t) (stAt m c (t.val + 1)).1 (stAt m c (t.val + 1)).2 y = BitVec.ofNat 32 (k + 42) := by
  refine rowArg_best (grid0.coords t) _ _ y b fun l => ?_
  obtain ⟨e0, e1⟩ := coords_val t
  have h61 : t.val % 62 = 61 := e1.symm.trans (last_val t hl)
  refine (stAt_lane m c (laneIdx (y 0) l) t.val t.isLt).trans ?_
  rw [h61]
  unfold rowOf
  rw [e0]
  rfl

/-- The counter written for a row with a best column. -/
theorem counters_best (c : Dev nD) (r : Fin 64) (k : Nat) (b : Best (V₀ m c (Proc.devRef .tc main_arg0)) r.val k) :
    counters m c (rowOut r) = BitVec.ofNat 32 (k + 42) := by
  refine (dats m 0 c).arrAt_forall_of_covers (2 : Fin 3)
    (fun i v => ∀ k, Best (V₀ m c (Proc.devRef .tc main_arg0)) (i 0).val k → v = BitVec.ofNat 32 (k + 42)) covers_2
    (fun t hf y k b => ?_) (rowOut r) (Memref.isWhole_whole _) k b
  have hl : k0_cond2 (grid0.coords t) = 1#1 := of_decide_eq_true ((flush_12 t).2.symm.trans hf)
  refine stored m c t hl _ k ?_
  have e := place_2 t y
  rw [transform_2] at e
  have e' : ((((pl (F := Ideal)).win 2).blk t).view.emb y 0).val = rowOf (grid0.coords t) (y 0) := by
    rw [e]; unfold rowOf; omega
  exact e' ▸ b

/-- The kernel's result at a row with a best column is that column. -/
theorem drawn_best (c : Dev nD) (j : S64.Idx) (k : Nat)
    (b : Best (V₀ m c (Proc.devRef .tc main_arg0)) (j 0).val k) : drawn (counters m c) j = BitVec.ofNat 32 k := by
  have e : drawn (counters m c) j = shapeCast S64 (counters m c) shapeCasts_S64x1_S64 j - 42#32 := rfl
  have hc : shapeCast S64 (counters m c) shapeCasts_S64x1_S64 j = counters m c (rowOut (j 0)) :=
    shapeCast_apply _ shapeCasts_S64x1_S64 j (rowOut (j 0)) (by
      rw [Shape.rowMajor_val_two, Shape.rowMajor_val_one]
      have e : (j 0).val * 1 + 0 = (j 0).val := by omega
      exact e)
  rw [e, hc, counters_best m c (j 0) k b, BitVec.ofNat_add]
  exact BitVec.add_sub_cancel _ _

end Cert.Draw

end
-- ==== Proof.RefRun.lean ====
/- The reference's run: its operations as one line, and what they leave in its result. -/
module

public import proofs.«01_k».proof.ReferenceIdeal
public import proofs.«01_k».proof.Proof.Gen.ReferenceIdeal
public import Idealize.ShloMosaic.Lib.StableHlo.Run
public import Idealize.ShloMosaic.Lib.Tactic

@[expose] public section

noncomputable section

namespace Cert.Draw.Ref

open Cert.ReferenceIdeal Cert.ReferenceIdeal.Gen Cert.ReferenceIdeal.Facts₀ Cert.ReferenceIdeal.Facts
open Idealize.ShloMosaic Idealize.ShloMosaic.TcCoe
open Idealize.SL Idealize.SL.Sem

variable {F : FTy → Type} [FloatOps F]

/-- The reference's programs. -/
abbrev P (F : FTy → Type) [FloatOps F] := Prog (TpuEff nD τ sig (Elt F) (Pipeline.Sig Λ₀ (Fin 0) fun p => (pcfgs (F := F) p).Adm) .tc) PUnit

/-- A program as one line of host operations, each on the host's buffers and none allocating. -/
structure Line (p : P F) where
  ops : List (HloOp τ sig (Elt F))
  eq : p = StableHlo.seq ops
  sub : ops.Forall fun op => op.bufs ⊆ StableHlo.tcRefs τ sig
  fresh : ∀ op ∈ ops, op.fresh = ∅

/-- The end of a line. -/
def Line.done : Line (F := F) (pure ⟨⟩) := ⟨[], rfl, trivial, fun _ h => nomatch h⟩

/-- One operation in front of a line. -/
def Line.op (o : HloOp τ sig (Elt F)) {k : P F} (hs : o.bufs ⊆ StableHlo.tcRefs τ sig) (hf : o.fresh = ∅) (l : Line k) :
    Line ((hlo rfl o fun _ => .ret (⟨⟩ : PUnit)) >>= fun _ => k) :=
  ⟨o :: l.ops, by rw [StableHlo.seq, ← l.eq],
    (List.forall_cons ..).mpr ⟨hs, l.sub⟩,
    fun op h => (List.mem_cons.mp h).elim (fun e => e ▸ hf) (l.fresh op)⟩

/-- One operation alone. -/
def Line.last (o : HloOp τ sig (Elt F)) (hs : o.bufs ⊆ StableHlo.tcRefs τ sig) (hf : o.fresh = ∅) :
    Line (hlo rfl o fun _ => .ret (⟨⟩ : PUnit)) :=
  ⟨[o], rfl, hs, fun op h => (List.mem_singleton.mp h) ▸ hf⟩

/-- One line after another. -/
def Line.append {p k : P F} (l₁ : Line p) (l₂ : Line k) : Line (p >>= fun _ => k) :=
  ⟨l₁.ops ++ l₂.ops, by rw [StableHlo.seq_append, ← l₁.eq, ← l₂.eq],
    (List.forall_append).mpr ⟨l₁.sub, l₂.sub⟩,
    fun op h => (List.mem_append.mp h).elim (l₁.fresh op) (l₂.fresh op)⟩

section
variable {k : P F} {t u v : BufTy}

/-- The operations' kinds, in front of a line. -/
def Line.t0 (z : StableHlo.TRef sig v) (f) (l : Line k) :
    Line ((hlo rfl (StableHlo.TRef.nullary z f) fun _ => .ret (⟨⟩ : PUnit)) >>= fun _ => k) :=
  .op _ (StableHlo.nullary_bufs_sub ..) rfl l
def Line.t1 (x : StableHlo.TRef sig t) (z : StableHlo.TRef sig v) (f) (l : Line k) :
    Line ((hlo rfl (StableHlo.TRef.unary x z f) fun _ => .ret (⟨⟩ : PUnit)) >>= fun _ => k) :=
  .op _ (StableHlo.unary_bufs_sub ..) rfl l
def Line.t2 (x : StableHlo.TRef sig t) (y : StableHlo.TRef sig u) (z : StableHlo.TRef sig v) (f) (l : Line k) :
    Line ((hlo rfl (StableHlo.TRef.binary x y z f) fun _ => .ret (⟨⟩ : PUnit)) >>= fun _ => k) :=
  .op _ (StableHlo.binary_bufs_sub ..) rfl l
def Line.last0 (z : StableHlo.TRef sig v) (f) : Line (F := F) (hlo rfl (StableHlo.TRef.nullary z f) fun _ => .ret (⟨⟩ : PUnit)) :=
  .last _ (StableHlo.nullary_bufs_sub ..) rfl
def Line.last1 (x : StableHlo.TRef sig t) (z : StableHlo.TRef sig v) (f) :
    Line (F := F) (hlo rfl (StableHlo.TRef.unary x z f) fun _ => .ret (⟨⟩ : PUnit)) :=
  .last _ (StableHlo.unary_bufs_sub ..) rfl
def Line.last2 (x : StableHlo.TRef sig t) (y : StableHlo.TRef sig u) (z : StableHlo.TRef sig v) (f) :
    Line (F := F) (hlo rfl (StableHlo.TRef.binary x y z f) fun _ => .ret (⟨⟩ : PUnit)) :=
  .last _ (StableHlo.binary_bufs_sub ..) rfl
def Line.t3 {w : BufTy} (x : StableHlo.TRef sig t) (y : StableHlo.TRef sig u) (w : StableHlo.TRef sig w) (z : StableHlo.TRef sig v) (f) (l : Line k) :
    Line ((hlo rfl (StableHlo.TRef.ternary x y w z f) fun _ => .ret (⟨⟩ : PUnit)) >>= fun _ => k) :=
  .op _ (StableHlo.ternary_bufs_sub ..) rfl l
def Line.t4 {s w : BufTy} (x : StableHlo.TRef sig t) (y : StableHlo.TRef sig u) (w : StableHlo.TRef sig w) (s : StableHlo.TRef sig s)
    (z : StableHlo.TRef sig v) (f) (l : Line k) :
    Line ((hlo rfl (StableHlo.TRef.quaternary x y w s z f) fun _ => .ret (⟨⟩ : PUnit)) >>= fun _ => k) :=
  .op _ (StableHlo.quaternary_bufs_sub ..) rfl l
end

section
variable {k : P F} (x y u z : Ref sig .tc)

/-- The main line's operations, in front of a line. -/
def Line.h0 (f hz) (l : Line k) :
    Line ((hlo rfl (StableHlo.nullary z f hz) fun _ => .ret (⟨⟩ : PUnit)) >>= fun _ => k) :=
  .op _ (StableHlo.nullary_bufs_sub ..) rfl l
def Line.h1 (f hx hz) (l : Line k) :
    Line ((hlo rfl (StableHlo.unary x z f hx hz) fun _ => .ret (⟨⟩ : PUnit)) >>= fun _ => k) :=
  .op _ (StableHlo.unary_bufs_sub ..) rfl l
def Line.h2 (f hx hy hz) (l : Line k) :
    Line ((hlo rfl (StableHlo.binary x y z f hx hy hz) fun _ => .ret (⟨⟩ : PUnit)) >>= fun _ => k) :=
  .op _ (StableHlo.binary_bufs_sub ..) rfl l
def Line.hr (he hn hx hz) (l : Line k) :
    Line ((hlo rfl (StableHlo.reshape x z he hn hx hz) fun _ => .ret (⟨⟩ : PUnit)) >>= fun _ => k) :=
  .op _ (StableHlo.reshape_bufs_sub ..) rfl l
end

/-! ## The reference's functions as lines -/

section
variable (a0 a1 : StableHlo.TRef sig ⟨S_, .i32⟩) (a2 a3 : StableHlo.TRef sig ⟨S64x1000000, .i32⟩) (φ : fn_threefry2x32.Bufs)

def hash0 : Line (fn_threefry2x32.body_part0 (F := F) a0 a1 a2 a3 φ) := by
  unfold fn_threefry2x32.body_part0
  repeat with_reducible first
    | refine Line.t2 _ _ _ _ ?_
    | refine Line.t1 _ _ _ ?_
    | refine Line.t0 _ _ ?_
  with_reducible first
    | exact Line.last0 _ _
    | exact Line.last1 _ _ _
    | exact Line.last2 _ _ _ _
    | exact Line.done

def hash1 : Line (fn_threefry2x32.body_part1 (F := F) a0 a1 a2 a3 φ) := by
  unfold fn_threefry2x32.body_part1
  repeat with_reducible first
    | refine Line.t2 _ _ _ _ ?_
    | refine Line.t1 _ _ _ ?_
    | refine Line.t0 _ _ ?_
  with_reducible first
    | exact Line.last0 _ _
    | exact Line.last1 _ _ _
    | exact Line.last2 _ _ _ _
    | exact Line.done

def hash2 : Line (fn_threefry2x32.body_part2 (F := F) a0 a1 a2 a3 φ) := by
  unfold fn_threefry2x32.body_part2
  repeat with_reducible first
    | refine Line.t2 _ _ _ _ ?_
    | refine Line.t1 _ _ _ ?_
    | refine Line.t0 _ _ ?_
  with_reducible first
    | exact Line.last0 _ _
    | exact Line.last1 _ _ _
    | exact Line.last2 _ _ _ _
    | exact Line.done

def hash3 : Line (fn_threefry2x32.body_part3 (F := F) a0 a1 a2 a3 φ) := by
  unfold fn_threefry2x32.body_part3
  repeat with_reducible first
    | refine Line.t2 _ _ _ _ ?_
    | refine Line.t1 _ _ _ ?_
    | refine Line.t0 _ _ ?_
  with_reducible first
    | exact Line.last0 _ _
    | exact Line.last1 _ _ _
    | exact Line.last2 _ _ _ _
    | exact Line.done

def hash : Line (fn_threefry2x32.body (F := F) a0 a1 a2 a3 φ) :=
  .append (hash0 a0 a1 a2 a3 φ) (.append (hash1 a0 a1 a2 a3 φ) (.append (hash2 a0 a1 a2 a3 φ) (hash3 a0 a1 a2 a3 φ)))
end

def pick (a0 a1 a2 φ) : Line (fn_where.body (F := F) a0 a1 a2 φ) := by
  unfold fn_where.body
  repeat with_reducible first
    | refine Line.t2 _ _ _ _ ?_
    | refine Line.t1 _ _ _ ?_
    | refine Line.t0 _ _ ?_
    | refine Line.t3 _ _ _ _ _ ?_
  with_reducible first
    | exact Line.last0 _ _
    | exact Line.last1 _ _ _
    | exact Line.last2 _ _ _ _
    | exact Line.done

def best (a0 φ) : Line (fn_argmax.body (F := F) a0 φ) := by
  unfold fn_argmax.body
  repeat with_reducible first
    | refine Line.t2 _ _ _ _ ?_
    | refine Line.t1 _ _ _ ?_
    | refine Line.t0 _ _ ?_
    | refine Line.t4 _ _ _ _ _ _ ?_
  with_reducible first
    | exact Line.last0 _ _
    | exact Line.last1 _ _ _
    | exact Line.last2 _ _ _ _
    | exact Line.done

/-- The whole reference as a line. -/
def whole (c : Dev nD) : Line (main (F := F) c) := by
  unfold main
  repeat with_reducible first
    | refine Line.h2 _ _ _ _ _ _ _ ?_
    | refine Line.h1 _ _ _ _ _ ?_
    | refine Line.h0 _ _ _ ?_
    | refine Line.hr _ _ _ _ _ _ ?_
    | refine Line.append (hash ..) ?_
    | refine Line.append (pick ..) ?_
    | refine Line.append (best ..) ?_
  with_reducible first
    | exact Line.last0 _ _
    | exact Line.last1 _ _ _
    | exact Line.last2 _ _ _ _
    | exact Line.done

end Cert.Draw.Ref

end
-- ==== Proof.RefValue.lean ====
/- What the reference's line leaves in its result, as one function of the logits. -/
module

public import proofs.«01_k».proof.Proof.RefRun
public import Idealize.ShloMosaic.Lib.Quiescent

@[expose] public section

noncomputable section

namespace Cert.Draw.Ref

open Cert.ReferenceIdeal Cert.ReferenceIdeal.Gen Cert.ReferenceIdeal.Facts₀ Cert.ReferenceIdeal.Facts
open Idealize.ShloMosaic Idealize.ShloMosaic.TcCoe
open Idealize.SL Idealize.SL.Sem

variable {F : FTy → Type} [FloatOps F]

/-- A word at every element. -/
def spread (x : IVec S_ 32) : IVec S64x1000000 32 := broadcastInDim S64x1000000 ![] Facts₀.bcast_S_S64x1000000 x
def word (r : BitVec 32) : IVec S64x1000000 32 := spread (constantI S_ 32 r)

/-- One mixing round: `x + y`, then `y` rotated left by `r` (`l = 32 - r`), exclusive-or that sum. -/
def mix (r l : BitVec 32) (p : IVec S64x1000000 32 × IVec S64x1000000 32) : IVec S64x1000000 32 × IVec S64x1000000 32 :=
  (addi p.1 p.2, xori (addi p.1 p.2) (ori (Host.shli p.2 (word r)) (Host.shrui p.2 (word l))))

/-- The four rounds of an odd group and of an even one. -/
def odd (p : IVec S64x1000000 32 × IVec S64x1000000 32) := mix 6#32 26#32 (mix 26#32 6#32 (mix 15#32 17#32 (mix 13#32 19#32 p)))
def even (p : IVec S64x1000000 32 × IVec S64x1000000 32) := mix 24#32 8#32 (mix 16#32 16#32 (mix 29#32 3#32 (mix 17#32 15#32 p)))

/-- The key schedule's additions after a group. -/
def feed (a b : IVec S_ 32) (n : BitVec 32) (p : IVec S64x1000000 32 × IVec S64x1000000 32) :
    IVec S64x1000000 32 × IVec S64x1000000 32 :=
  (addi p.1 (spread a), addi (addi p.2 (spread b)) (word n))

/-- Threefry-2x32 at the key `(a, b)` of the counters `(x, y)`. -/
def threefry (a b : IVec S_ 32) (x y : IVec S64x1000000 32) : IVec S64x1000000 32 × IVec S64x1000000 32 :=
  let s := xori (xori a b) (constantI S_ 32 466688986#32)
  feed s a 5#32 (odd (feed b s 4#32 (even (feed a b 3#32 (odd (feed s a 2#32 (even (feed b s 1#32 (odd
    (addi x (spread a), addi y (spread b)))))))))))

/-- The key pair: 42's high word, then its low word. -/
def keys : IVec S2 32 :=
  concatenate S2 0 [⟨S1, broadcastInDim S1 ![] Facts₀.bcast_S_S1 (Host.shrui (constantI S_ 32 42#32) (constantI S_ 32 32#32))⟩,
    ⟨S1, broadcastInDim S1 ![] Facts₀.bcast_S_S1 (andi (constantI S_ 32 42#32) (constantI S_ 32 4294967295#32))⟩] Facts₀.concatenates_S1_S1_S2_d0
def key₀ : IVec S_ 32 := shapeCast S_ (extractStridedSlice S1 ![0] keys Facts₀.slices_S2_S1_0) Facts₀.shapeCasts_S1_S_
def key₁ : IVec S_ 32 := shapeCast S_ (extractStridedSlice S1 ![1] keys Facts₀.slices_S2_S1_1) Facts₀.shapeCasts_S1_S_

/-- A 64-bit word at every element. -/
def word64 (r : BitVec 64) : IVec S64x1000000 64 :=
  broadcastInDim S64x1000000 ![] Facts₀.bcast_S_S64x1000000 (constantI S_ 64 r)

/-- Every element's place in row-major order, -/
def places : IVec S64x1000000 64 :=
  addi (muli (word64 1000000#64) (iotaInDim S64x1000000 64 0)) (muli (word64 1#64) (iotaInDim S64x1000000 64 1))

/-- and the hash of the place's two words. -/
def hashed : IVec S64x1000000 32 × IVec S64x1000000 32 :=
  threefry key₀ key₁ (trunci 32 (Host.shrui places (word64 32#64)) Facts₀.natLt_32_64) (trunci 32 places Facts₀.natLt_32_64)

/-- A hash's two words as one. -/
def joined (p : IVec S64x1000000 32 × IVec S64x1000000 32) : IVec S64x1000000 32 := xori p.1 p.2

/-- Every element's random word. -/
def rand : IVec S64x1000000 32 := joined hashed

/-- A number at every element. -/
def num (r : BitVec 32) : FVec F S64x1000000 .f32 :=
  broadcastInDim S64x1000000 ![] Facts₀.bcast_S_S64x1000000 (constant S_ .f32 r)

/-- A random word as a number in `[0, 1)`. -/
def float (b : IVec S64x1000000 32) : FVec F S64x1000000 .f32 :=
  subf (bitcastToFloat .f32 (ori (Host.shrui b (word 9#32)) (word 1065353216#32))) (num 0x3F800000#32)

/-- The uniform draw of a random word: the least normal number in place of zero. -/
def draw (b : IVec S64x1000000 32) : FVec F S64x1000000 .f32 :=
  select (cmpf .oeq (float (F := F) b) (num 0x00000000#32)) (num 0x00800000#32) (float b)

/-- The shifted logits, by the random words. -/
def shifted (b : IVec S64x1000000 32) (x : FVec F S64x1000000 .f32) : FVec F S64x1000000 .f32 :=
  addf (Host.negf (Host.log (Host.negf (Host.log (draw b))))) x

/-- Each row's first column with the largest shifted logit. -/
def sample (b : IVec S64x1000000 32) (x : FVec F S64x1000000 .f32) : IVec S64 32 := fun j =>
  (Host.argReduce reducer_argmax_f32_i32 (shifted b x) (iotaInDim S64x1000000 32 1) (constant S_ .f32 0xFF800000#32)
    (constantI S_ 32 0#32) Facts₀.reducesTo_S64x1000000_S64_d1 Facts₀.h_S_ j).2

/-- The reference's line in three: the operations before the hash, -/
def before (c : Dev nD) : List (HloOp τ sig (Elt F)) := (whole (F := F) c).ops.take 28
/-- the hash, -/
def hashing : List (HloOp τ sig (Elt F)) := (hash (F := F) (.of main_v8) (.of main_v10) (.of main_v21) (.of main_v20) main_call0).ops
/-- and the operations after it. -/
def behind (c : Dev nD) : List (HloOp τ sig (Elt F)) := (whole (F := F) c).ops.drop (28 + (hashing (F := F)).length)

theorem whole_split (c : Dev nD) : (whole (F := F) c).ops = before c ++ (hashing ++ behind c) := by
  sl_kernel_rfl

section
variable (c : Dev nD) (V : Valuation τ sig (Elt F))

/-- The hash's arguments: the key's two words and the places' two words. -/
theorem before_key₀ : StableHlo.after (before c) V (Proc.devRef .tc main_v8) = key₀ := by sl_kernel_rfl
theorem before_key₁ : StableHlo.after (before c) V (Proc.devRef .tc main_v10) = key₁ := by sl_kernel_rfl
theorem before_high : StableHlo.after (before c) V (Proc.devRef .tc main_v21)
    = trunci 32 (Host.shrui places (word64 32#64)) Facts₀.natLt_32_64 := by sl_kernel_rfl
theorem before_low : StableHlo.after (before c) V (Proc.devRef .tc main_v20) = trunci 32 places Facts₀.natLt_32_64 := by
  sl_kernel_rfl
theorem before_arg : StableHlo.after (before c) V (Proc.devRef .tc main_arg0) = V (Proc.devRef .tc main_arg0) := by
  sl_kernel_rfl

/-- The hash's results, from its arguments. -/
theorem hash_value :
    ((StableHlo.after hashing V (Proc.devRef .tc main_v22_0), StableHlo.after hashing V (Proc.devRef .tc main_v22_1)) :
      IVec S64x1000000 32 × IVec S64x1000000 32)
      = threefry (V (Proc.devRef .tc main_v8)) (V (Proc.devRef .tc main_v10)) (V (Proc.devRef .tc main_v21)) (V (Proc.devRef .tc main_v20)) := by
  sl_kernel_rfl
theorem hash_arg : StableHlo.after hashing V (Proc.devRef .tc main_arg0) = V (Proc.devRef .tc main_arg0) := by
  sl_kernel_rfl

/-- The result, from the hash's results and the logits. -/
theorem behind_value : StableHlo.after (behind c) V (Proc.devRef .tc main_v39)
    = sample (joined (V (Proc.devRef .tc main_v22_0), V (Proc.devRef .tc main_v22_1)))
        (V (Proc.devRef .tc main_arg0)) := by
  sl_kernel_rfl
theorem behind_arg : StableHlo.after (behind c) V (Proc.devRef .tc main_arg0) = V (Proc.devRef .tc main_arg0) := by
  sl_kernel_rfl

theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- After the reference's operations its result holds `sample` of the random words and the logits, -/
theorem whole_value : StableHlo.after (whole (F := F) c).ops V (Proc.devRef .tc main_v39)
    = sample rand (V (Proc.devRef .tc main_arg0)) := by
  have hh := hash_value (StableHlo.after (before c) V)
  rw [before_key₀, before_key₁, before_high, before_low] at hh
  rw [whole_split, after_append, after_append, behind_value, hash_arg, before_arg]
  exact congrArg (fun p => sample (joined p) (V (Proc.devRef .tc main_arg0))) hh

/-- and the logits are as they were. -/
theorem whole_arg : StableHlo.after (whole (F := F) c).ops V (Proc.devRef .tc main_arg0) = V (Proc.devRef .tc main_arg0) := by
  rw [whole_split, after_append, after_append, behind_arg, hash_arg, before_arg]

end

/-- The reference's run from any memory. -/
theorem run_result (m : (l : Loc nD τ sig) → Buf (Elt F) l) (ρ) :
    θ_run (defs (F := F)) (onTc (τ := τ) (main (F := F))) ⟨m, fun _ => 0, ρ⟩ fun r =>
      (∀ c : Dev nD, r.2.mem (c.tc.loc main_v39) = sample rand (m (c.tc.loc main_arg0))
        ∧ r.2.mem (c.tc.loc main_arg0) = m (c.tc.loc main_arg0)) ∧ r.2.sem = fun _ => 0 := by
  refine (θ_run (defs (F := F)) _ _).mono (fun r h => ⟨fun c => ⟨?_, ?_⟩, sem_eq_zero_of_no_sems rfl _⟩)
    (StableHlo.run_seq (by decide) (by decide) defs main (fun c => (whole c).ops) (fun c => (whole c).eq)
      (fun c => (whole c).sub) m ρ fun c => (whole c).fresh)
  · exact (h c main_v39).trans (whole_value c _)
  · exact (h c main_arg0).trans (whole_arg c _)

/-- It runs, keeps the logits, and leaves every semaphore at zero. -/
theorem frame (m : (l : Loc nD τ sig) → Buf (Elt F) l) (ρ) :
    θ_run (defs (F := F)) (onTc (τ := τ) (main (F := F))) ⟨m, fun _ => 0, ρ⟩ fun r =>
      (∀ c : Dev nD, r.2.mem (c.tc.loc main_arg0) = m (c.tc.loc main_arg0)) ∧ r.2.sem = fun _ => 0 :=
  (θ_run (defs (F := F)) _ _).mono (fun _ h => ⟨fun c => (h.1 c).2, h.2⟩) (run_result m ρ)

end Cert.Draw.Ref

end
-- ==== Proof.RefHash.lean ====
/- The reference's random words: at each place `hashWord` of the place's number plus 42. -/
module

public import proofs.«01_k».proof.Proof.RefValue
public import proofs.«01_k».proof.Proof.Hash

@[expose] public section

noncomputable section

namespace Cert.Draw.Ref

open Cert.ReferenceIdeal Cert.ReferenceIdeal.Gen
open Idealize.ShloMosaic

/-- The two words at an element. -/
def at₂ (q : S64x1000000.Idx) (p : IVec S64x1000000 32 × IVec S64x1000000 32) : BitVec 32 × BitVec 32 := (p.1 q, p.2 q)

/-- The one element of a scalar. -/
def only : S_.Idx := fun a => a.elim0

theorem spread_apply (x : IVec S_ 32) (q : S64x1000000.Idx) : spread x q = x only :=
  congrArg x (funext fun a => a.elim0)

theorem word_apply (r : BitVec 32) (q : S64x1000000.Idx) : word r q = r := spread_apply _ q

theorem shli_unit (y r : BitVec 32) (h : r.toNat < 32) : IntOp.shli .host y r = IntOp.shli .vector y r := by
  unfold IntOp.shli; rw [if_pos h, if_pos h]
theorem shrui_unit (y r : BitVec 32) (h : r.toNat < 32) : IntOp.shrui .host y r = IntOp.shrui .vector y r := by
  unfold IntOp.shrui; rw [if_pos h, if_pos h]

theorem mix_at (q : S64x1000000.Idx) (r l : BitVec 32) (hr : r.toNat < 32) (hl : l.toNat < 32) (p) :
    at₂ q (mix r l p) = mixWord r l (at₂ q p) := by
  change (p.1 q + p.2 q, IntOp.xori (p.1 q + p.2 q) (IntOp.ori (IntOp.shli .host (p.2 q) (word r q)) (IntOp.shrui .host (p.2 q) (word l q)))) = _
  rw [word_apply, word_apply, shli_unit _ _ hr, shrui_unit _ _ hl]
  rfl

theorem odd_at (q : S64x1000000.Idx) (p) : at₂ q (odd p) = oddWords (at₂ q p) := by
  unfold odd oddWords
  rw [mix_at _ _ _ (by decide) (by decide), mix_at _ _ _ (by decide) (by decide), mix_at _ _ _ (by decide) (by decide),
    mix_at _ _ _ (by decide) (by decide)]

theorem even_at (q : S64x1000000.Idx) (p) : at₂ q (even p) = evenWords (at₂ q p) := by
  unfold even evenWords
  rw [mix_at _ _ _ (by decide) (by decide), mix_at _ _ _ (by decide) (by decide), mix_at _ _ _ (by decide) (by decide),
    mix_at _ _ _ (by decide) (by decide)]

theorem feed_at (q : S64x1000000.Idx) (a b : IVec S_ 32) (n : BitVec 32) (p) :
    at₂ q (feed a b n p) = addWords (a only) (b only + n) (at₂ q p) := by
  change (p.1 q + spread a q, p.2 q + spread b q + word n q) = _
  rw [spread_apply, spread_apply, word_apply, BitVec.add_assoc]
  rfl

theorem key₀_only : key₀ only = 0#32 := by decide +kernel
theorem key₁_only : key₁ only = 42#32 := by decide +kernel

/-- A place's number. -/
def placeOf (q : S64x1000000.Idx) : Nat := 1000000 * (q 0).val + (q 1).val

theorem placeOf_lt (q : S64x1000000.Idx) : placeOf q < 64000000 := by
  have h0 : (q 0).val < 64 := (q 0).isLt
  have h1 : (q 1).val < 1000000 := (q 1).isLt
  unfold placeOf; omega

theorem places_apply (q : S64x1000000.Idx) : places q = BitVec.ofNat 64 (placeOf q) := by
  change 1000000#64 * BitVec.ofNat 64 (q 0).val + 1#64 * BitVec.ofNat 64 (q 1).val = _
  unfold placeOf
  rw [← BitVec.ofNat_mul, ← BitVec.ofNat_mul, ← BitVec.ofNat_add, Nat.one_mul]

theorem low_apply (q : S64x1000000.Idx) :
    trunci 32 places Facts₀.natLt_32_64 q = BitVec.ofNat 32 (placeOf q) := by
  change BitVec.truncate 32 (places q) = _
  rw [places_apply]
  apply BitVec.eq_of_toNat_eq
  have h := placeOf_lt q
  simp only [BitVec.truncate_eq_setWidth, BitVec.toNat_setWidth, BitVec.toNat_ofNat]
  omega

theorem high_apply (q : S64x1000000.Idx) :
    trunci 32 (Host.shrui places (word64 32#64)) Facts₀.natLt_32_64 q = 0#32 := by
  change BitVec.truncate 32 (IntOp.shrui .host (places q) 32#64) = _
  rw [places_apply]
  apply BitVec.eq_of_toNat_eq
  have h := placeOf_lt q
  unfold IntOp.shrui
  rw [if_pos (by decide)]
  simp only [BitVec.truncate_eq_setWidth, BitVec.toNat_setWidth, BitVec.toNat_ushiftRight, BitVec.ushiftRight_eq', BitVec.toNat_ofNat, Nat.shiftRight_eq_div_pow]
  rw [Nat.div_eq_of_lt (Nat.lt_of_le_of_lt (Nat.mod_le _ _) (Nat.lt_trans h (by decide)))]

/-- The reference's random word at a place. -/
theorem rand_apply (q : S64x1000000.Idx) : rand q = hashWord (BitVec.ofNat 32 (placeOf q + 42)) := by
  have h : at₂ q hashed = addWords 466689008#32 5#32 (oddWords (addWords 42#32 466689012#32 (evenWords (addWords 0#32 45#32 (oddWords
      (addWords 466689008#32 2#32 (evenWords (addWords 42#32 466689009#32 (oddWords (0#32, BitVec.ofNat 32 (placeOf q + 42))))))))))) := by
    unfold hashed threefry
    have hs : xori (xori key₀ key₁) (constantI S_ 32 466688986#32) only = 466689008#32 := by
      change IntOp.xori (IntOp.xori (key₀ only) (key₁ only)) 466688986#32 = _
      rw [key₀_only, key₁_only]; decide
    have h0 : at₂ q (addi (trunci 32 (Host.shrui places (word64 32#64)) Facts₀.natLt_32_64) (spread key₀),
        addi (trunci 32 places Facts₀.natLt_32_64) (spread key₁)) = (0#32, BitVec.ofNat 32 (placeOf q + 42)) := by
      change (_ + spread key₀ q, _ + spread key₁ q) = _
      rw [spread_apply, spread_apply, key₀_only, key₁_only, low_apply, high_apply, BitVec.ofNat_add]
      rfl
    simp only [feed_at, odd_at, even_at, h0, hs, key₀_only, key₁_only]
    rfl
  change (fun p : BitVec 32 × BitVec 32 => IntOp.xori p.1 p.2) (at₂ q hashed) = _
  rw [h]
  rfl

end Cert.Draw.Ref

end
-- ==== Proof.RefPick.lean ====
/- The reference's result: each row's best column. -/
module

public import proofs.«01_k».proof.Proof.RefHash
public import proofs.«01_k».proof.Proof.Rows

@[expose] public section

noncomputable section

namespace Cert.Draw.Ref

open Cert.ReferenceIdeal Cert.ReferenceIdeal.Gen
open Idealize.ShloMosaic

/-! ## The reduction's fold -/

/-- The reduction's step. -/
abbrev stepTo : EReal × BitVec 32 → EReal × BitVec 32 → EReal × BitVec 32 := reducer_argmax_f32_i32 (F := Ideal)

/-- It takes the first pair where that has the greater value, or the same value and the lesser word; else the second. -/
theorem stepTo_eq (a b : EReal × BitVec 32) :
    stepTo a b = if b.1 < a.1 ∨ (a.1 = b.1 ∧ a.2.toInt < b.2.toInt) then a else b := by
  have e : stepTo a b = (Scalar.select (IntOp.ori (BitVec.ofBool (decide (b.1 < a.1))) (BitVec.ofBool (decide (a.1 ≠ a.1)))) a.1 b.1,
      Scalar.select (IntOp.ori (IntOp.ori (BitVec.ofBool (decide (b.1 < a.1))) (BitVec.ofBool (decide (a.1 ≠ a.1))))
        (IntOp.andi (BitVec.ofBool (decide (a.1 = b.1))) (BitVec.ofBool (a.2.slt b.2)))) a.2 b.2) := rfl
  have hs : a.2.slt b.2 = decide (a.2.toInt < b.2.toInt) := rfl
  rw [e, hs, decide_eq_false (p := a.1 ≠ a.1) (fun h => h rfl)]
  by_cases h1 : b.1 < a.1
  · rw [if_pos (.inl h1), decide_eq_true h1, decide_eq_false (p := a.1 = b.1) h1.ne']
    cases decide (a.2.toInt < b.2.toInt) <;> rfl
  · rw [decide_eq_false h1]
    by_cases h2 : a.1 = b.1
    · rw [decide_eq_true h2]
      by_cases h3 : a.2.toInt < b.2.toInt
      · rw [if_pos (.inr ⟨h2, h3⟩), decide_eq_true h3]
        exact Prod.ext h2.symm rfl
      · rw [if_neg (fun h => h.elim h1 fun h => h3 h.2), decide_eq_false h3]
        rfl
    · rw [if_neg (fun h => h.elim h1 fun h => h2 h.1), decide_eq_false h2]
      cases decide (a.2.toInt < b.2.toInt) <;> rfl

/-- A pair that is not better than another. -/
def NotBetter (e p : EReal × BitVec 32) : Prop := e.1 < p.1 ∨ (e.1 = p.1 ∧ p.2.toInt ≤ e.2.toInt)

theorem stepTo_left {e p : EReal × BitVec 32} (h : NotBetter e p) : stepTo p e = p := by
  rw [stepTo_eq]
  rcases h with h | ⟨h, h'⟩
  · exact if_pos (.inl h)
  · split
    · rfl
    · rename_i hn
      exact Prod.ext h (BitVec.eq_of_toInt_eq (le_antisymm (not_lt.mp fun hl => hn (.inr ⟨h.symm, hl⟩)) h'))

theorem stepTo_right {e p : EReal × BitVec 32} (h : NotBetter e p) : stepTo e p = p := by
  rw [stepTo_eq]
  refine if_neg fun h' => ?_
  rcases h with h | ⟨h, hi⟩
  · exact h'.elim (fun h' => lt_asymm h h') fun h' => h.ne h'.1
  · exact h'.elim (fun h' => h'.ne h.symm) fun h' => (not_lt.mpr hi) h'.2

theorem stepTo_both {e e' p : EReal × BitVec 32} (h : NotBetter e p) (h' : NotBetter e' p) : NotBetter (stepTo e e') p := by
  rw [stepTo_eq]
  split
  · exact h
  · exact h'

/-- The fold's result is any pair of the list that none of the pairs is better than. -/
theorem fold_eq (p : EReal × BitVec 32) : ∀ (l : List (EReal × BitVec 32)) (a : EReal × BitVec 32), NotBetter a p →
    (∀ e ∈ l, NotBetter e p) → (a = p ∨ p ∈ l) → l.foldl stepTo a = p
  | [], a, _, _, h => h.elim id fun h => absurd h List.not_mem_nil
  | e :: l, a, ha, hl, h => by
    have he := hl e List.mem_cons_self
    refine fold_eq p l (stepTo a e) (stepTo_both ha he) (fun e' h' => hl e' (List.mem_cons_of_mem _ h')) ?_
    rcases h with rfl | h
    · exact .inl (stepTo_left he)
    · rcases List.mem_cons.mp h with rfl | h
      · exact .inl (stepTo_right ha)
      · exact .inr h

/-- The pairs a reduction meets for a result index are those of the source indices that drop to it. -/
theorem mem_fiber {s t : Shape} {axes : List (Fin s.rank)} (x : s.Idx → EReal) (y : s.Idx → BitVec 32) (h : s.ReducesTo axes t)
    (j : t.Idx) (e : EReal × BitVec 32) : e ∈ Host.argReduceFiber x y h j ↔ ∃ q, h.drop q = j ∧ (x q, y q) = e := by
  unfold Host.argReduceFiber
  rw [List.mem_map]
  constructor
  · rintro ⟨n, hn, rfl⟩
    exact ⟨s.rowMajor.symm n, of_decide_eq_true (List.mem_filter.mp hn).2, rfl⟩
  · rintro ⟨q, hq, rfl⟩
    exact ⟨s.rowMajor q, List.mem_filter.mpr ⟨List.mem_finRange _, decide_eq_true (by rw [Equiv.symm_apply_apply]; exact hq)⟩, by
      rw [Equiv.symm_apply_apply]⟩

/-- What an arg-max over any shape holds at `j`: any pair of its fiber that none of the pairs is better than. -/
theorem argMax_eq {s t u : Shape} {axes : List (Fin s.rank)} (x : FVec Ideal s .f32) (y : s.Idx → BitVec 32) (ix : FVec Ideal u .f32)
    (iy : u.Idx → BitVec 32) (h : s.ReducesTo axes t) (hu : 0 < u.numel) (j : t.Idx) (q : s.Idx) (hq : h.drop q = j)
    (hi : NotBetter (ix (Shape.Idx.first hu), iy (Shape.Idx.first hu)) (x q, y q))
    (hb : ∀ q', h.drop q' = j → NotBetter (x q', y q') (x q, y q)) :
    Host.argReduce (reducer_argmax_f32_i32 (F := Ideal)) x y ix iy h hu j = (x q, y q) := by
  rw [Ideal.argReduce_eq_reduce2, Host.reduce2_eq_foldl_fiber]
  refine fold_eq _ _ _ hi (fun e he => ?_) (.inr ((mem_fiber ..).mpr ⟨q, hq, rfl⟩))
  obtain ⟨q', hq', rfl⟩ := (mem_fiber ..).mp he
  exact hb q' hq'

/-! ## The shifted logits -/

section
variable (X : S64x1000000.Idx → EReal) (b : IVec S64x1000000 32) (q : S64x1000000.Idx)

theorem add_at (x y : FVec Ideal S64x1000000 .f32) : addf x y q = (x q + y q : EReal) := rfl
theorem sub_at (x y : FVec Ideal S64x1000000 .f32) : subf x y q = (x q - y q : EReal) := rfl
theorem neg_at (x : FVec Ideal S64x1000000 .f32) : Host.negf x q = (-(x q) : EReal) := rfl
theorem ln_at (x : FVec Ideal S64x1000000 .f32) : Host.log x q = Ideal.log (x q) := rfl
theorem bits_at (w : IVec S64x1000000 32) : bitcastToFloat (F := Ideal) .f32 w q = Ideal.ofBits .f32 (w q) := rfl
theorem num_at (a : BitVec 32) : num (F := Ideal) a q = Ideal.ofBits .f32 a := rfl
theorem pick_at (x y z w : FVec Ideal S64x1000000 .f32) :
    select (cmpf .oeq x y) z w q = if BitVec.ofBool (decide (x q = y q)) = 1#1 then z q else w q := rfl
theorem word_at : ori (Host.shrui b (word 9#32)) (word 1065353216#32) q = fracWord (b q) := by
  change IntOp.ori (IntOp.shrui .host (b q) (word 9#32 q)) (word 1065353216#32 q) = _
  rw [word_apply, word_apply, shrui_unit _ _ (by decide)]
  rfl

theorem float_apply : float (F := Ideal) b q = (Ideal.ofBits .f32 (fracWord (b q)) - Ideal.ofBits .f32 0x3F800000#32 : EReal) := by
  unfold float
  rw [sub_at, bits_at, num_at, word_at]

theorem zero_value : Ideal.ofBits .f32 0#32 = 0 := by
  unfold Ideal.ofBits Ideal.ieee
  dsimp only
  rw [if_neg (by decide), if_pos (by decide)]
  norm_num

theorem draw_apply : draw (F := Ideal) b q = replaced (b q) := by
  unfold draw replaced
  rw [pick_at, num_at, num_at, float_apply, zero_value]
  by_cases h : (Ideal.ofBits .f32 (fracWord (b q)) - Ideal.ofBits .f32 0x3F800000#32 : EReal) = 0
  · rw [if_pos h, decide_eq_true h]; rfl
  · rw [if_neg h, decide_eq_false h]; rfl

theorem shifted_at : shifted (F := Ideal) b X q = shift (b q) (X q) := by
  unfold shifted
  rw [add_at, neg_at, ln_at, neg_at, ln_at, draw_apply, shift_eq]

/-- The reference's shifted logits are the scores. -/
theorem shifted_score : shifted (F := Ideal) rand X q = score X (q 0).val (q 1).val := by
  have hq : q = idxOf (q 0).val (q 1).val (q 0).isLt (q 1).isLt := by
    funext a; fin_cases a <;> rfl
  rw [shifted_at, rand_apply]
  unfold score
  rw [dif_pos ⟨(q 0).isLt, (q 1).isLt⟩]
  unfold counterOf placeOf
  rw [Nat.mul_comm 1000000]
  exact congrArg (fun i => shift _ (X i)) hq

end

/-! ## The result -/

theorem toInt_col {k : Nat} (h : k < 1000000) : (BitVec.ofNat 32 k).toInt = (k : Nat) := by
  rw [BitVec.toInt_ofNat']
  exact Int.bmod_eq_of_le (by omega) (by omega)

/-- The row an index drops to. -/
theorem drop_row (q : S64x1000000.Idx) : (Facts₀.reducesTo_S64x1000000_S64_d1.drop q 0).val = (q 0).val :=
  Shape.ReducesTo.drop_apply_val_of_eq _ q 0 0

theorem column_at (q : S64x1000000.Idx) : iotaInDim S64x1000000 32 1 q = BitVec.ofNat 32 (q 1).val := rfl

theorem init_at : constant (F := Ideal) S_ .f32 0xFF800000#32 (Shape.Idx.first Facts₀.h_S_) = ⊥ := minusInf_value

/-- The reference's result, as the reduction it is. -/
theorem sample_at (X : FVec Ideal S64x1000000 .f32) (b : IVec S64x1000000 32) :
    sample (F := Ideal) b X = fun j => (Host.argReduce (reducer_argmax_f32_i32 (F := Ideal)) (shifted (F := Ideal) b X) (iotaInDim S64x1000000 32 1)
      (constant S_ .f32 0xFF800000#32) (constantI S_ 32 0#32) Facts₀.reducesTo_S64x1000000_S64_d1 Facts₀.h_S_ j).2 := by
  delta sample
  exact Eq.refl _

/-- The reference's result at a row with a best column is that column. -/
theorem sample_best (X : S64x1000000.Idx → EReal) (j : S64.Idx) (k : Nat) (b : Best X (j 0).val k) :
    sample (F := Ideal) rand X j = BitVec.ofNat 32 k := by
  have hcol := b.col
  have hpick := argMax_eq (shifted (F := Ideal) rand X) (iotaInDim S64x1000000 32 1) (constant S_ .f32 0xFF800000#32)
    (constantI S_ 32 0#32) Facts₀.reducesTo_S64x1000000_S64_d1 Facts₀.h_S_ j (idxOf (j 0).val k (j 0).isLt hcol) (by
      funext a
      fin_cases a
      exact Fin.ext (drop_row _)) (by
      refine .inl ?_
      dsimp only
      rw [init_at, shifted_score]
      exact b.above) (fun q hd => by
      have h0 : (q 0).val = (j 0).val := by rw [← hd]; exact (drop_row q).symm
      have hq1 : (q 1).val < 1000000 := (q 1).isLt
      rw [shifted_score, shifted_score, column_at, column_at, h0]
      rcases lt_or_eq_of_le (b.most (q 1).val) with h | h
      · exact .inl h
      · refine .inr ⟨h, ?_⟩
        have hk : ¬(q 1).val < k := fun hl => (b.first _ hl).ne h
        have e : (BitVec.ofNat 32 k).toInt ≤ (BitVec.ofNat 32 (q 1).val).toInt := by
          rw [toInt_col hcol, toInt_col hq1]; omega
        exact e)
  rw [sample_at]
  beta_reduce
  rw [hpick, column_at]
  rfl

end Cert.Draw.Ref

end
-- ==== Proof.Drawable.lean ====
/- A drawable array has a best column in every row. -/
module

public import proofs.«01_k».proof.Pre_drawable
public import proofs.«01_k».proof.Proof.Gen.Pre_drawable
public import proofs.«01_k».proof.Proof.Rows

@[expose] public section

noncomputable section

namespace Cert.Draw

open Idealize.ShloMosaic

/-! ## Folds of bits -/

variable {ι : Type}

/-- A conjunction that is one has no zero among its bits, -/
theorem all_of_and (x : ι → BitVec 1) : ∀ (l : List ι) (a : BitVec 1),
    l.foldl (fun r i => IntOp.andi r (x i)) a = 1#1 → a = 1#1 ∧ ∀ i ∈ l, x i = 1#1
  | [], a, h => ⟨h, fun _ hi => absurd hi List.not_mem_nil⟩
  | i :: l, a, h => by
    obtain ⟨h1, h2⟩ := all_of_and x l (IntOp.andi a (x i)) h
    have hb : ∀ a b : BitVec 1, IntOp.andi a b = 1#1 → a = 1#1 ∧ b = 1#1 := by decide
    obtain ⟨ha, hx⟩ := hb _ _ h1
    refine ⟨ha, fun i' h' => ?_⟩
    rcases List.mem_cons.mp h' with rfl | h'
    · exact hx
    · exact h2 i' h'

/-- and a disjunction that is one has a one among them. -/
theorem some_of_or (x : ι → BitVec 1) : ∀ (l : List ι) (a : BitVec 1),
    l.foldl (fun r i => IntOp.ori r (x i)) a = 1#1 → a = 1#1 ∨ ∃ i ∈ l, x i = 1#1
  | [], a, h => .inl h
  | i :: l, a, h => by
    have hb : ∀ a b : BitVec 1, IntOp.ori a b = 1#1 → a = 1#1 ∨ b = 1#1 := by decide
    rcases some_of_or x l (IntOp.ori a (x i)) h with h1 | ⟨i', h', hx⟩
    · rcases hb _ _ h1 with ha | hx
      · exact .inl ha
      · exact .inr ⟨i, List.mem_cons_self, hx⟩
    · exact .inr ⟨i', List.mem_cons_of_mem _ h', hx⟩

variable {s t u : Shape} {axes : List (Fin s.rank)}

/-- The same of a reduction over any shape: by conjunction, -/
theorem reduce_and (x : s.Idx → BitVec 1) (init : u.Idx → BitVec 1) (h : s.ReducesTo axes t) (hu : 0 < u.numel) (j : t.Idx)
    (h1 : Host.reduce IntOp.andi x init h hu j = 1#1) (q : s.Idx) (hq : h.drop q = j) : x q = 1#1 := by
  rw [Host.reduce_eq_foldl] at h1
  refine (all_of_and x _ _ h1).2 q (List.mem_filter.mpr ⟨List.mem_map.mpr ⟨s.rowMajor q, List.mem_finRange _, ?_⟩, decide_eq_true hq⟩)
  exact Equiv.symm_apply_apply _ _

/-- and by disjunction, from zero. -/
theorem reduce_or (x : s.Idx → BitVec 1) (init : u.Idx → BitVec 1) (h : s.ReducesTo axes t) (hu : 0 < u.numel) (j : t.Idx)
    (h0 : init (Shape.Idx.first hu) = 0#1) (h1 : Host.reduce IntOp.ori x init h hu j = 1#1) : ∃ q, h.drop q = j ∧ x q = 1#1 := by
  rw [Host.reduce_eq_foldl] at h1
  rcases some_of_or x _ _ h1 with h1 | ⟨q, hq, hx⟩
  · exact absurd (h0.symm.trans h1) (by decide)
  · exact ⟨q, of_decide_eq_true (List.mem_filter.mp hq).2, hx⟩

/-! ## The precondition -/

open Cert.Pre_drawable in
theorem above_at (X : S64x1000000.Idx → EReal) (h : S_.BroadcastsInDim S64x1000000 (![] : Fin 0 → Fin S64x1000000.rank)) (q : S64x1000000.Idx) :
    cmpf (F := Ideal) (φ := .f32) .ogt X (broadcastInDim S64x1000000 ![] h (constant S_ .f32 0xFF800000#32)) q
      = BitVec.ofBool (decide (Ideal.ofBits .f32 0xFF800000#32 < X q)) := rfl

open Cert.Pre_drawable Cert.Pre_drawable.Gen in
/-- In a drawable array each row has a logit above minus infinity. -/
theorem drawable_above (X : S64x1000000.Idx → EReal) (h : fn (F := Ideal) X = fun _ => 1#1) (j : S64.Idx) :
    ∃ q : S64x1000000.Idx, (q 0).val = (j 0).val ∧ ⊥ < X q := by
  have h' := congrFun h (fun a => a.elim0)
  unfold fn at h'
  dsimp only at h'
  have hrow := reduce_and _ _ _ _ _ h' j (funext fun a => a.elim0)
  obtain ⟨q, hq, hx⟩ := reduce_or _ _ _ _ _ rfl hrow
  refine ⟨q, ?_, ?_⟩
  · rw [← hq]
    exact (Shape.ReducesTo.drop_apply_val_of_eq _ q 0 0).symm
  · rw [above_at, minusInf_value] at hx
    by_contra hn
    rw [decide_eq_false hn] at hx
    exact absurd hx (by decide)

/-! ## The best column -/

/-- A row with a logit above minus infinity has a best column. -/
theorem best_exists (X : Cert.KernelIdeal.S64x1000000.Idx → EReal) (q : Cert.KernelIdeal.S64x1000000.Idx) (hq : ⊥ < X q) :
    ∃ k, Best X (q 0).val k := by
  classical
  have hr : (q 0).val < 64 := (q 0).isLt
  have hs : ⊥ < score X (q 0).val (q 1).val := by
    have e : idxOf (q 0).val (q 1).val (q 0).isLt (q 1).isLt = q := by
      funext a; fin_cases a <;> rfl
    unfold score
    rw [dif_pos ⟨(q 0).isLt, (q 1).isLt⟩, e]
    exact shift_above _ hq
  obtain ⟨n, -, hn⟩ := Finset.exists_max_image (Finset.range 1000000) (score X (q 0).val) ⟨0, Finset.mem_range.mpr (by omega)⟩
  have hmost : ∀ k', score X (q 0).val k' ≤ score X (q 0).val n := fun k' => by
    by_cases hk : k' < 1000000
    · exact hn k' (Finset.mem_range.mpr hk)
    · unfold score
      rw [dif_neg fun h => hk h.2]
      exact bot_le
  have hex : ∃ k, score X (q 0).val k = score X (q 0).val n := ⟨n, rfl⟩
  have hk := Nat.find_spec hex
  have habove : ⊥ < score X (q 0).val (Nat.find hex) := by rw [hk]; exact lt_of_lt_of_le hs (hmost _)
  refine ⟨Nat.find hex, hr, score_col habove, habove, fun k' => by rw [hk]; exact hmost k', fun k' hlt => ?_⟩
  rw [hk]
  exact lt_of_le_of_ne (hmost k') (Nat.find_min hex hlt)

end Cert.Draw

end
-- ==== Proof.Equation.lean ====
/- The kernel's result is the reference's, on drawable logits. -/
module

public import proofs.«01_k».proof.Proof.Drawn
public import proofs.«01_k».proof.Proof.RefPick
public import proofs.«01_k».proof.Proof.Drawable

@[expose] public section

noncomputable section

namespace Cert.Draw

open Cert.KernelIdeal Cert.KernelIdeal.Gen
open Idealize.ShloMosaic Idealize.ShloMosaic.TcCoe

/-- Row by row, both are the row's best column. -/
theorem drawn_eq_sample (m : (ℓ : Loc nD τ sig) → Buf (Elt Ideal) ℓ) (c : Dev nD) (X : S64x1000000.Idx → EReal)
    (hX : m ((c : Thread nD τ).loc main_arg0) = X) (h : Cert.Pre_drawable.fn (F := Ideal) X = fun _ => 1#1) :
    drawn (counters m c) = Ref.sample (F := Ideal) Ref.rand X := by
  funext j
  obtain ⟨q, hq, hx⟩ := drawable_above X h j
  obtain ⟨k, b⟩ := best_exists X q hx
  rw [hq] at b
  have hV : V₀ m c (Proc.devRef .tc main_arg0) = X := (V₀_arg0 m c).trans hX
  rw [Ref.sample_best X j k b]
  exact drawn_best m c j k (by rw [hV]; exact b)

end Cert.Draw

end
-- ==== Proof.lean ====
module

public import proofs.«01_k».proof.Defs
public import proofs.«01_k».proof.Proof.Gen.Kernel
public import proofs.«01_k».proof.Proof.Gen.Pre_drawable
public import proofs.«01_k».proof.Proof.Equation

@[expose] public section

noncomputable section

namespace Cert.Proof

open Idealize.ShloMosaic Idealize.SL.Sem

/-- The kernel's program is its idealization's: no rewrite was made, so their frames are one. -/
theorem frame_kernel (m : (l : Loc Cert.Kernel.nD Cert.Kernel.τ Cert.Kernel.sig) → Buf (Elt Bits) l) (g : Dev Cert.Kernel.nD → PrngReg) :
    θ_run (Cert.Kernel.defs (F := Bits)) (onTc (τ := Cert.Kernel.τ) (Cert.Kernel.main (F := Bits))) ⟨m, fun _ => 0, g⟩ (fun r =>
      (∀ c : Dev Cert.Kernel.nD, r.2.mem ((c.tc : Thread Cert.Kernel.nD Cert.Kernel.τ).loc Cert.Kernel.main_arg0)
        = m ((c.tc : Thread Cert.Kernel.nD Cert.Kernel.τ).loc Cert.Kernel.main_arg0)) ∧ r.2.sem = fun _ => 0) :=
  Eq.mp (by sl_kernel_rfl) (Cert.Draw.frame (F := Bits) m g)

/-- The idealized kernel and the idealized reference, from the same drawable logits, end with the same categories. -/
theorem values : Cert.algebraic_KernelIdeal_ReferenceIdeal_pre_drawable (hKernelIdeal := Cert.KernelIdeal.Gen.facts)
    (hReferenceIdeal := Cert.ReferenceIdeal.Gen.facts) (hPre_drawable := Cert.Pre_drawable.Gen.facts) := fun m g m' g' hd harg =>
  ⟨fun c => Cert.Draw.drawn (Cert.Draw.counters m c),
    (θ_run (Cert.KernelIdeal.defs (F := Ideal)) _ _).mono (fun _ h => h.1) (Cert.Draw.run_result m g),
    (θ_run (Cert.ReferenceIdeal.defs (F := Ideal)) _ _).mono (fun _ h c => ⟨(h.1 c).1.trans
      (Cert.Draw.drawn_eq_sample m c _ (harg c).symm (harg c ▸ hd c)).symm, (h.1 c).2⟩) (Cert.Draw.Ref.run_result m' g')⟩

theorem claim : Cert.Claim := ⟨Cert.Kernel.Gen.facts, Cert.KernelIdeal.Gen.facts, Cert.ReferenceIdeal.Gen.facts,
  Cert.Pre_drawable.Gen.facts, fun m g _ => frame_kernel m g, fun m g _ => Cert.Draw.frame m g, fun m g _ => Cert.Draw.frame m g,
  fun m g _ => Cert.Draw.Ref.frame m g, fun m g _ => Cert.Draw.Ref.frame m g, trivial, values⟩

end Cert.Proof

end
